-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_names_experts : Cert.Pre_names_experts.Facts] (m : (ℓ : Loc Cert.Kernel2.nD Cert.Kernel2.τ Cert.Kernel2.sig) → Buf (Elt Bits) ℓ) : Prop :=
  ∀ c : Dev Cert.Kernel2.nD,
    (Cert.Pre_names_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_names_experts : Cert.Pre_names_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_names_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal [hPre_names_experts : Cert.Pre_names_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_names_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] [hPre_names_experts : Cert.Pre_names_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_names_experts : Cert.Pre_names_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] [hPre_names_experts : Cert.Pre_names_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] [hPre_names_experts : Cert.Pre_names_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v58) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v55) = v0 c
          ∧ r.2.mem ((c.tc : Thread Cert.Reference7Ideal.nD Cert.Reference7Ideal.τ).loc Cert.Reference7Ideal.main_v57) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_names_experts : Cert.Pre_names_experts.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_names_experts := hPre_names_experts)
    ∧ quiescent_Kernel2Ideal (hKernel2Ideal := hKernel2Ideal) (hPre_names_experts := hPre_names_experts)
    ∧ quiescent_Reference2Ideal (hReference2Ideal := hReference2Ideal) (hPre_names_experts := hPre_names_experts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_names_experts := hPre_names_experts)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_names_experts.lean ====
abbrev S36864x2048 : Shape := ⟨2, ![36864, 2048]⟩
abbrev S311296 : Shape := ⟨1, ![311296]⟩
abbrev S1216 : Shape := ⟨1, ![1216]⟩
abbrev S64x2048x512 : Shape := ⟨3, ![64, 2048, 512]⟩
abbrev S64x512x2048 : Shape := ⟨3, ![64, 512, 2048]⟩
abbrev S_ : Shape := ⟨0, ![]⟩

class Facts : Prop where
  bcast_S_S1216 : S_.BroadcastsInDim S1216 (![] : Fin 0 → Fin S1216.rank)

variable [Facts]

def fn {F : FTy → Type} [FloatOps F] (main_arg0 : FVec F S36864x2048 .f32) (main_arg1 : IVec S311296 32) (main_arg2 : IVec S1216 32) (main_arg3 : FVec F S64x2048x512 .f32) (main_arg4 : FVec F S64x2048x512 .f32) (main_arg5 : FVec F S64x512x2048 .f32) : IVec S1216 1 :=
  let main_c : IVec S_ 32 := constantI S_ 32 0#32
  let main_v0 : IVec S1216 32 := broadcastInDim S1216 ![] bcast_S_S1216 main_c
  let main_v1 : IVec S1216 1 := cmpi .sge main_arg2 main_v0
  let main_c_0 : IVec S_ 32 := constantI S_ 32 64#32
  let main_v2 : IVec S1216 32 := broadcastInDim S1216 ![] bcast_S_S1216 main_c_0
  let main_v3 : IVec S1216 1 := cmpi .slt main_arg2 main_v2
  let main_v4 : IVec S1216 1 := andi main_v1 main_v3
  main_v4
-- ==== Kernel.lean ====
abbrev S4x128 : Shape := ⟨2, ![4, 128]⟩
abbrev S16x2048x4x2x128 : Shape := ⟨5, ![16, 2048, 4, 2, 128]⟩
abbrev S16x256x4x2x128 : Shape := ⟨5, ![16, 256, 4, 2, 128]⟩
abbrev S16x256x4x256 : Shape := ⟨4, ![16, 256, 4, 256]⟩
abbrev S16x2048x4x256 : Shape := ⟨4, ![16, 2048, 4, 256]⟩
abbrev S256 : Shape := ⟨1, ![256]⟩
abbrev S1x128 : Shape := ⟨2, ![1, 128]⟩
abbrev S128 : Shape := ⟨1, ![128]⟩
abbrev S_ : Shape := ⟨0, ![]⟩
abbrev S16x256x1024 : Shape := ⟨3, ![16, 256, 1024]⟩
abbrev S16x2048x1024 : Shape := ⟨3, ![16, 2048, 1024]⟩
abbrev S1 : Shape := ⟨1, ![1]⟩
abbrev S1x256 : Shape := ⟨2, ![1, 256]⟩
abbrev S1x256x256 : Shape := ⟨3, ![1, 256, 256]⟩
abbrev S1x2048x256 : Shape := ⟨3, ![1, 2048, 256]⟩
abbrev S256x256 : Shape := ⟨2, ![256, 256]⟩
abbrev S256x128 : Shape := ⟨2, ![256, 128]⟩
abbrev S256x1 : Shape := ⟨2, ![256, 1]⟩
abbrev S2048x256 : Shape := ⟨2, ![2048, 256]⟩
abbrev S2048x128 : Shape := ⟨2, ![2048, 128]⟩
abbrev S256x2048 : Shape := ⟨2, ![256, 2048]⟩

abbrev nBuf : Space → Nat
  | .hbm => 37
  | .vmem => 13
  | .smem => 1
  | _ => 0

abbrev bufTy : (tb : Table) → Fin (tcTables nBuf tb) → BufTy
  | .hbm, ⟨0, _⟩ => ⟨S4x128, .f32⟩
  | .hbm, ⟨1, _⟩ => ⟨S16x2048x4x2x128, .f32⟩
  | .hbm, ⟨2, _⟩ => ⟨S16x256x4x2x128, .f32⟩
  | .hbm, ⟨3, _⟩ => ⟨S16x256x4x256, .f32⟩
  | .hbm, ⟨4, _⟩ => ⟨S16x2048x4x2x128, .f32⟩
  | .hbm, ⟨5, _⟩ => ⟨S16x2048x4x256, .f32⟩
  | .hbm, ⟨6, _⟩ => ⟨S256, .f32⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16x256x1024, .f32⟩
  | .hbm, ⟨27, _⟩ => ⟨S16x256x1024, .bf16⟩
  | .hbm, ⟨28, _⟩ => ⟨S16x256x1024, .f32⟩
  | .hbm, ⟨29, _⟩ => ⟨S16x2048x1024, .f32⟩
  | .hbm, ⟨30, _⟩ => ⟨S16x2048x1024, .bf16⟩
  | .hbm, ⟨31, _⟩ => ⟨S16x2048x1024, .f32⟩
  | .hbm, ⟨32, _⟩ => ⟨S16x2048x1024, .bf16⟩
  | .hbm, ⟨33, _⟩ => ⟨S16x2048x1024, .f32⟩
  | .hbm, ⟨34, _⟩ => ⟨S1, .f32⟩
  | .hbm, ⟨35, _⟩ => ⟨S1x256, .f32⟩
  | .hbm, ⟨36, _⟩ => ⟨S16x2048x1024, .f32⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .f32⟩
  | .local _ .vmem, ⟨5, _⟩ => ⟨S1x256x256, .f32⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .f32⟩
  | .local _ .vmem, ⟨9, _⟩ => ⟨S1x2048x256, .f32⟩
  | .local _ .vmem, ⟨10, _⟩ => ⟨S1x256, .f32⟩
  | .local _ .vmem, ⟨11, _⟩ => ⟨S1x256x256, .f32⟩
  | .local _ .vmem, ⟨12, _⟩ => ⟨S1x256x256, .f32⟩
  | .local _ .smem, ⟨0, _⟩ => ⟨S1, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![16, 4, 8], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S4x128 : Shape := ⟨2, ![4, 128]⟩
abbrev S16x2048x4x2x128 : Shape := ⟨5, ![16, 2048, 4, 2, 128]⟩
abbrev S16x256x4x2x128 : Shape := ⟨5, ![16, 256, 4, 2, 128]⟩
abbrev S16x256x4x256 : Shape := ⟨4, ![16, 256, 4, 256]⟩
abbrev S16x2048x4x256 : Shape := ⟨4, ![16, 2048, 4, 256]⟩
abbrev S256 : Shape := ⟨1, ![256]⟩
abbrev S1x128 : Shape := ⟨2, ![1, 128]⟩
abbrev S128 : Shape := ⟨1, ![128]⟩
abbrev S_ : Shape := ⟨0, ![]⟩
abbrev S16x2304x4x2x128 : Shape := ⟨5, ![16, 2304, 4, 2, 128]⟩
abbrev S16x2304x4x256 : Shape := ⟨4, ![16, 2304, 4, 256]⟩
abbrev S16x4x2x2048x2304 : Shape := ⟨5, ![16, 4, 2, 2048, 2304]⟩
abbrev S16x4x2x2048 : Shape := ⟨4, ![16, 4, 2, 2048]⟩
abbrev S16x4x2x2048x1 : Shape := ⟨5, ![16, 4, 2, 2048, 1]⟩
abbrev S16x4x1x2048x2304 : Shape := ⟨5, ![16, 4, 1, 2048, 2304]⟩
abbrev S16x4x2048x2304 : Shape := ⟨4, ![16, 4, 2048, 2304]⟩
abbrev S16x4x256x2048 : Shape := ⟨4, ![16, 4, 256, 2048]⟩
abbrev S16x2048x4 : Shape := ⟨3, ![16, 2048, 4]⟩
abbrev S16x2048x4x1 : Shape := ⟨4, ![16, 2048, 4, 1]⟩
abbrev S1x1x1x256 : Shape := ⟨4, ![1, 1, 1, 256]⟩
abbrev S16x2048x1024 : Shape := ⟨3, ![16, 2048, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S16x2048x4x2x128, .f32⟩
  | .hbm, ⟨2, _⟩ => ⟨S16x256x4x2x128, .f32⟩
  | .hbm, ⟨3, _⟩ => ⟨S16x256x4x256, .f32⟩
  | .hbm, ⟨4, _⟩ => ⟨S16x2048x4x2x128, .f32⟩
  | .hbm, ⟨5, _⟩ => ⟨S16x2048x4x256, .f32⟩
  | .hbm, ⟨6, _⟩ => ⟨S256, .f32⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16x2304x4x2x128, .f32⟩
  | .hbm, ⟨27, _⟩ => ⟨S16x2304x4x256, .f32⟩
  | .hbm, ⟨28, _⟩ => ⟨S16x4x2x2048x2304, .f32⟩
  | .hbm, ⟨29, _⟩ => ⟨S_, .f32⟩
  | .hbm, ⟨30, _⟩ => ⟨S16x4x2x2048x2304, .f32⟩
  | .hbm, ⟨31, _⟩ => ⟨S16x4x2x2048x2304, .f32⟩
  | .hbm, ⟨32, _⟩ => ⟨S_, .f32⟩
  | .hbm, ⟨33, _⟩ => ⟨S16x4x2x2048, .f32⟩
  | .hbm, ⟨34, _⟩ => ⟨S_, .f32⟩
  | .hbm, ⟨35, _⟩ => ⟨S16x4x2x2048, .f32⟩
  | .hbm, ⟨36, _⟩ => ⟨S16x4x2x2048, .f32⟩
  | .hbm, ⟨37, _⟩ => ⟨S16x4x2x2048x1, .f32⟩
  | .hbm, ⟨38, _⟩ => ⟨S16x4x2x2048x2304, .f32⟩
  | .hbm, ⟨39, _⟩ => ⟨S16x4x2x2048x2304, .f32⟩
  | .hbm, ⟨40, _⟩ => ⟨S16x4x2x2048x2304, .f32⟩
  | .hbm, ⟨41, _⟩ => ⟨S_, .f32⟩
  | .hbm, ⟨42, _⟩ => ⟨S16x4x2x2048, .f32⟩
  | .hbm, ⟨43, _⟩ => ⟨S16x4x2x2048x1, .f32⟩
  | .hbm, ⟨44, _⟩ => ⟨S16x4x2x2048x2304, .f32⟩
  | .hbm, ⟨45, _⟩ => ⟨S16x4x2x2048x2304, .f32⟩
  | .hbm, ⟨46, _⟩ => ⟨S16x4x1x2048x2304, .f32⟩
  | .hbm, ⟨47, _⟩ => ⟨S16x4x2048x2304, .f32⟩
  | .hbm, ⟨48, _⟩ => ⟨S16x4x1x2048x2304, .f32⟩
  | .hbm, ⟨49, _⟩ => ⟨S16x4x2048x2304, .f32⟩
  | .hbm, ⟨50, _⟩ => ⟨S16x4x2048x2304, .f32⟩
  | .hbm, ⟨51, _⟩ => ⟨S16x4x2048x2304, .f32⟩
  | .hbm, ⟨52, _⟩ => ⟨S16x4x2048x2304, .f32⟩
  | .hbm, ⟨53, _⟩ => ⟨S16x4x256x2048, .f32⟩
  | .hbm, ⟨54, _⟩ => ⟨S16x2048x4x256, .f32⟩
  | .hbm, ⟨55, _⟩ => ⟨S16x2048x4x256, .f32⟩
  | .hbm, ⟨56, _⟩ => ⟨S_, .f32⟩
  | .hbm, ⟨57, _⟩ => ⟨S16x2048x4, .f32⟩
  | .hbm, ⟨58, _⟩ => ⟨S16x2048x4x1, .f32⟩
  | .hbm, ⟨59, _⟩ => ⟨S_, .f32⟩
  | .hbm, ⟨60, _⟩ => ⟨S16x2048x4x1, .f32⟩
  | .hbm, ⟨61, _⟩ => ⟨S16x2048x4x1, .f32⟩
  | .hbm, ⟨62, _⟩ => ⟨S_, .f32⟩
  | .hbm, ⟨63, _⟩ => ⟨S16x2048x4x1, .f32⟩
  | .hbm, ⟨64, _⟩ => ⟨S16x2048x4x1, .f32⟩
  | .hbm, ⟨65, _⟩ => ⟨S16x2048x4x1, .f32⟩
  | .hbm, ⟨66, _⟩ => ⟨S16x2048x4x256, .f32⟩
  | .hbm, ⟨67, _⟩ => ⟨S16x2048x4x256, .f32⟩
  | .hbm, ⟨68, _⟩ => ⟨S1x1x1x256, .f32⟩
  | .hbm, ⟨69, _⟩ => ⟨S16x2048x4x256, .f32⟩
  | .hbm, ⟨70, _⟩ => ⟨S16x2048x4x256, .f32⟩
  | .hbm, ⟨71, _⟩ => ⟨S_, .f32⟩
  | .hbm, ⟨72, _⟩ => ⟨S16x2048x4x256, .f32⟩
  | .hbm, ⟨73, _⟩ => ⟨S16x2048x4x256, .f32⟩
  | .hbm, ⟨74, _⟩ => ⟨S16x2048x1024, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Kernel2.lean ====
abbrev S36864x2048 : Shape := ⟨2, ![36864, 2048]⟩
abbrev S311296 : Shape := ⟨1, ![311296]⟩
abbrev S1216 : Shape := ⟨1, ![1216]⟩
abbrev S64x2048x512 : Shape := ⟨3, ![64, 2048, 512]⟩
abbrev S64x512x2048 : Shape := ⟨3, ![64, 512, 2048]⟩
abbrev S_ : Shape := ⟨0, ![]⟩
abbrev S311296x1 : Shape := ⟨2, ![311296, 1]⟩
abbrev S311296x2048 : Shape := ⟨2, ![311296, 2048]⟩
abbrev S256x2048 : Shape := ⟨2, ![256, 2048]⟩
abbrev S1x2048x512 : Shape := ⟨3, ![1, 2048, 512]⟩
abbrev S1 : Shape := ⟨1, ![1]⟩
abbrev S1x512x2048 : Shape := ⟨3, ![1, 512, 2048]⟩
abbrev S2048x1024 : Shape := ⟨2, ![2048, 1024]⟩
abbrev S512x2048 : Shape := ⟨2, ![512, 2048]⟩
abbrev S2048x512 : Shape := ⟨2, ![2048, 512]⟩
abbrev S256x1024 : Shape := ⟨2, ![256, 1024]⟩
abbrev S256x512 : Shape := ⟨2, ![256, 512]⟩

abbrev nBuf : Space → Nat
  | .hbm => 16
  | .vmem => 12
  | .smem => 1
  | _ => 0

abbrev bufTy : (tb : Table) → Fin (tcTables nBuf tb) → BufTy
  | .hbm, ⟨0, _⟩ => ⟨S36864x2048, .f32⟩
  | .hbm, ⟨1, _⟩ => ⟨S311296, .i32⟩
  | .hbm, ⟨2, _⟩ => ⟨S64x2048x512, .f32⟩
  | .hbm, ⟨3, _⟩ => ⟨S64x2048x512, .f32⟩
  | .hbm, ⟨4, _⟩ => ⟨S64x512x2048, .f32⟩
  | .hbm, ⟨5, _⟩ => ⟨S36864x2048, .bf16⟩
  | .hbm, ⟨6, _⟩ => ⟨S_, .i32⟩
  | .hbm, ⟨7, _⟩ => ⟨S311296, .i32⟩
  | .hbm, ⟨8, _⟩ => ⟨S311296, .i1⟩
  | .hbm, ⟨9, _⟩ => ⟨S_, .i32⟩
  | .hbm, ⟨10, _⟩ => ⟨S311296, .i32⟩
  | .hbm, ⟨11, _⟩ => ⟨S311296, .i32⟩
  | .hbm, ⟨12, _⟩ => ⟨S311296, .i32⟩
  | .hbm, ⟨13, _⟩ => ⟨S311296x1, .i32⟩
  | .hbm, ⟨14, _⟩ => ⟨S311296x2048, .bf16⟩
  | .hbm, ⟨15, _⟩ => ⟨S311296x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x2048, .f32⟩
  | .local _ .vmem, ⟨9, _⟩ => ⟨S256x2048, .f32⟩
  | .local _ .vmem, ⟨10, _⟩ => ⟨S2048x1024, .bf16⟩
  | .local _ .vmem, ⟨11, _⟩ => ⟨S512x2048, .bf16⟩
  | .local _ .smem, ⟨0, _⟩ => ⟨S1216, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![1216], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S1216.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1216) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S1216.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1216) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S1216.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1216) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S36864x2048 : Shape := ⟨2, ![36864, 2048]⟩
abbrev S311296 : Shape := ⟨1, ![311296]⟩
abbrev S1216 : Shape := ⟨1, ![1216]⟩
abbrev S64x2048x512 : Shape := ⟨3, ![64, 2048, 512]⟩
abbrev S64x512x2048 : Shape := ⟨3, ![64, 512, 2048]⟩
abbrev S_ : Shape := ⟨0, ![]⟩
abbrev S311296x1 : Shape := ⟨2, ![311296, 1]⟩
abbrev S311296x2048 : Shape := ⟨2, ![311296, 2048]⟩
abbrev S1216x256x2048 : Shape := ⟨3, ![1216, 256, 2048]⟩
abbrev S1216x1 : Shape := ⟨2, ![1216, 1]⟩
abbrev S1216x3 : Shape := ⟨2, ![1216, 3]⟩
abbrev S1216x1x2048x512 : Shape := ⟨4, ![1216, 1, 2048, 512]⟩
abbrev S1216x2048x512 : Shape := ⟨3, ![1216, 2048, 512]⟩
abbrev S1216x1x512x2048 : Shape := ⟨4, ![1216, 1, 512, 2048]⟩
abbrev S1216x512x2048 : Shape := ⟨3, ![1216, 512, 2048]⟩
abbrev S1216x256x512 : Shape := ⟨3, ![1216, 256, 512]⟩

abbrev nBuf : Space → Nat
  | .hbm => 117
  | .vmem => 0
  | .smem => 0
  | _ => 0

abbrev bufTy : (tb : Table) → Fin (tcTables nBuf tb) → BufTy
  | .hbm, ⟨0, _⟩ => ⟨S36864x2048, .f32⟩
  | .hbm, ⟨1, _⟩ => ⟨S311296, .i32⟩
  | .hbm, ⟨2, _⟩ => ⟨S1216, .i32⟩
  | .hbm, ⟨3, _⟩ => ⟨S64x2048x512, .f32⟩
  | .hbm, ⟨4, _⟩ => ⟨S64x2048x512, .f32⟩
  | .hbm, ⟨5, _⟩ => ⟨S64x512x2048, .f32⟩
  | .hbm, ⟨6, _⟩ => ⟨S_, .i32⟩
  | .hbm, ⟨7, _⟩ => ⟨S311296, .i32⟩
  | .hbm, ⟨8, _⟩ => ⟨S311296, .i1⟩
  | .hbm, ⟨9, _⟩ => ⟨S_, .i32⟩
  | .hbm, ⟨10, _⟩ => ⟨S311296, .i32⟩
  | .hbm, ⟨11, _⟩ => ⟨S311296, .i32⟩
  | .hbm, ⟨12, _⟩ => ⟨S311296, .i32⟩
  | .hbm, ⟨13, _⟩ => ⟨S311296x1, .i32⟩
  | .hbm, ⟨14, _⟩ => ⟨S311296x2048, .f32⟩
  | .hbm, ⟨15, _⟩ => ⟨S1216x256x2048, .f32⟩
  | .hbm, ⟨16, _⟩ => ⟨S_, .i32⟩
  | .hbm, ⟨17, _⟩ => ⟨S1216, .i32⟩
  | .hbm, ⟨18, _⟩ => ⟨S1216, .i1⟩
  | .hbm, ⟨19, _⟩ => ⟨S_, .i32⟩
  | .hbm, ⟨20, _⟩ => ⟨S1216, .i32⟩
  | .hbm, ⟨21, _⟩ => ⟨S1216, .i32⟩
  | .hbm, ⟨22, _⟩ => ⟨S1216, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1216x1, .i32⟩
  | .hbm, ⟨40, _⟩ => ⟨S1216x1, .i32⟩
  | .hbm, ⟨41, _⟩ => ⟨S1216x1, .i32⟩
  | .hbm, ⟨42, _⟩ => ⟨S1216x3, .i32⟩
  | .hbm, ⟨43, _⟩ => ⟨S1216x1x2048x512, .f32⟩
  | .hbm, ⟨44, _⟩ => ⟨S1216x2048x512, .f32⟩
  | .hbm, ⟨45, _⟩ => ⟨S_, .i32⟩
  | .hbm, ⟨46, _⟩ => ⟨S1216, .i32⟩
  | .hbm, ⟨47, _⟩ => ⟨S1216, .i1⟩
  | .hbm, ⟨48, _⟩ => ⟨S_, .i32⟩
  | .hbm, ⟨49, _⟩ => ⟨S1216, .i32⟩
  | .hbm, ⟨50, _⟩ => ⟨S1216, .i32⟩
  | .hbm, ⟨51, _⟩ => ⟨S1216, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1216x1, .i32⟩
  | .hbm, ⟨69, _⟩ => ⟨S1216x1, .i32⟩
  | .hbm, ⟨70, _⟩ => ⟨S1216x1, .i32⟩
  | .hbm, ⟨71, _⟩ => ⟨S1216x3, .i32⟩
  | .hbm, ⟨72, _⟩ => ⟨S1216x1x2048x512, .f32⟩
  | .hbm, ⟨73, _⟩ => ⟨S1216x2048x512, .f32⟩
  | .hbm, ⟨74, _⟩ => ⟨S_, .i32⟩
  | .hbm, ⟨75, _⟩ => ⟨S1216, .i32⟩
  | .hbm, ⟨76, _⟩ => ⟨S1216, .i1⟩
  | .hbm, ⟨77, _⟩ => ⟨S_, .i32⟩
  | .hbm, ⟨78, _⟩ => ⟨S1216, .i32⟩
  | .hbm, ⟨79, _⟩ => ⟨S1216, .i32⟩
  | .hbm, ⟨80, _⟩ => ⟨S1216, .i32⟩
  | .hbm, ⟨81, _⟩ => ⟨S_, .i32⟩
  | .hbm, ⟨82, _⟩ => ⟨S_, .i32⟩
  | .hbm, ⟨83, _⟩ => ⟨S_, .i1⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i1⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S1216x1, .i32⟩
  | .hbm, ⟨98, _⟩ => ⟨S1216x1, .i32⟩
  | .hbm, ⟨99, _⟩ => ⟨S1216x1, .i32⟩
  | .hbm, ⟨100, _⟩ => ⟨S1216x3, .i32⟩
  | .hbm, ⟨101, _⟩ => ⟨S1216x1x512x2048, .f32⟩
  | .hbm, ⟨102, _⟩ => ⟨S1216x512x2048, .f32⟩
  | .hbm, ⟨103, _⟩ => ⟨S1216x256x512, .f32⟩
  | .hbm, ⟨104, _⟩ => ⟨S1216x256x512, .f32⟩
  | .hbm, ⟨105, _⟩ => ⟨S1216x256x512, .f32⟩
  | .hbm, ⟨106, _⟩ => ⟨S_, .f32⟩
  | .hbm, ⟨107, _⟩ => ⟨S1216x256x512, .f32⟩
  | .hbm, ⟨108, _⟩ => ⟨S1216x256x512, .f32⟩
  | .hbm, ⟨109, _⟩ => ⟨S_, .f32⟩
  | .hbm, ⟨110, _⟩ => ⟨S1216x256x512, .f32⟩
  | .hbm, ⟨111, _⟩ => ⟨S1216x256x512, .f32⟩
  | .hbm, ⟨112, _⟩ => ⟨S1216x256x512, .f32⟩
  | .hbm, ⟨113, _⟩ => ⟨S1216x256x512, .f32⟩
  | .hbm, ⟨114, _⟩ => ⟨S1216x256x512, .f32⟩
  | .hbm, ⟨115, _⟩ => ⟨S1216x256x2048, .f32⟩
  | .hbm, ⟨116, _⟩ => ⟨S311296x2048, .f32⟩
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_c_4 : Ref sig .tc := ⟨.hbm, 24, rfl⟩
abbrev main_v13 : Ref sig .tc := ⟨.hbm, 25, rfl⟩
abbrev main_c_5 : Ref sig .tc := ⟨.hbm, 26, rfl⟩
abbrev main_c_6 : Ref sig .tc := ⟨.hbm, 27, rfl⟩
abbrev main_v14 : Ref sig .tc := ⟨.hbm, 28, rfl⟩
abbrev main_c_7 : Ref sig .tc := ⟨.hbm, 29, rfl⟩
abbrev main_v15 : Ref sig .tc := ⟨.hbm, 30, rfl⟩
abbrev main_c_8 : Ref sig .tc := ⟨.hbm, 31, rfl⟩
abbrev main_c_9 : Ref sig .tc := ⟨.hbm, 32, rfl⟩
abbrev main_v16 : Ref sig .tc := ⟨.hbm, 33, rfl⟩
abbrev main_c_10 : Ref sig .tc := ⟨.hbm, 34, rfl⟩
abbrev main_c_11 : Ref sig .tc := ⟨.hbm, 35, rfl⟩
abbrev main_v17 : Ref sig .tc := ⟨.hbm, 36, rfl⟩
abbrev main_c_12 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_13 : Ref sig .tc := ⟨.hbm, 45, rfl⟩
abbrev main_v25 : Ref sig .tc := ⟨.hbm, 46, rfl⟩
abbrev main_v26 : Ref sig .tc := ⟨.hbm, 47, rfl⟩
abbrev main_c_14 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_15 : Ref sig .tc := ⟨.hbm, 52, rfl⟩
abbrev main_c_16 : Ref sig .tc := ⟨.hbm, 53, rfl⟩
abbrev main_v30 : Ref sig .tc := ⟨.hbm, 54, rfl⟩
abbrev main_c_17 : Ref sig .tc := ⟨.hbm, 55, rfl⟩
abbrev main_c_18 : Ref sig .tc := ⟨.hbm, 56, rfl⟩
abbrev main_v31 : Ref sig .tc := ⟨.hbm, 57, rfl⟩
abbrev main_c_19 : Ref sig .tc := ⟨.hbm, 58, rfl⟩
abbrev main_v32 : Ref sig .tc := ⟨.hbm, 59, rfl⟩
abbrev main_c_20 : Ref sig .tc := ⟨.hbm, 60, rfl⟩
abbrev main_c_21 : Ref sig .tc := ⟨.hbm, 61, rfl⟩
abbrev main_v33 : Ref sig .tc := ⟨.hbm, 62, rfl⟩
abbrev main_c_22 : Ref sig .tc := ⟨.hbm, 63, rfl⟩
abbrev main_c_23 : Ref sig .tc := ⟨.hbm, 64, rfl⟩
abbrev main_v34 : Ref sig .tc := ⟨.hbm, 65, rfl⟩
abbrev main_c_24 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_25 : Ref sig .tc := ⟨.hbm, 74, rfl⟩
abbrev main_v42 : Ref sig .tc := ⟨.hbm, 75, rfl⟩
abbrev main_v43 : Ref sig .tc := ⟨.hbm, 76, rfl⟩
abbrev main_c_26 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_27 : Ref sig .tc := ⟨.hbm, 81, rfl⟩
abbrev main_c_28 : Ref sig .tc := ⟨.hbm, 82, rfl⟩
abbrev main_v47 : Ref sig .tc := ⟨.hbm, 83, rfl⟩
abbrev main_c_29 : Ref sig .tc := ⟨.hbm, 84, rfl⟩
abbrev main_c_30 : Ref sig .tc := ⟨.hbm, 85, rfl⟩
abbrev main_v48 : Ref sig .tc := ⟨.hbm, 86, rfl⟩
abbrev main_c_31 : Ref sig .tc := ⟨.hbm, 87, rfl⟩
abbrev main_v49 : Ref sig .tc := ⟨.hbm, 88, rfl⟩
abbrev main_c_32 : Ref sig .tc := ⟨.hbm, 89, rfl⟩
abbrev main_c_33 : Ref sig .tc := ⟨.hbm, 90, rfl⟩
abbrev main_v50 : Ref sig .tc := ⟨.hbm, 91, rfl⟩
abbrev main_c_34 : Ref sig .tc := ⟨.hbm, 92, rfl⟩
abbrev main_c_35 : Ref sig .tc := ⟨.hbm, 93, rfl⟩
abbrev main_v51 : Ref sig .tc := ⟨.hbm, 94, rfl⟩
abbrev main_c_36 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_call0_v0 : Ref sig .tc := ⟨.hbm, 104, rfl⟩
abbrev main_call0_v1 : Ref sig .tc := ⟨.hbm, 105, rfl⟩
abbrev main_call0_cst : Ref sig .tc := ⟨.hbm, 106, rfl⟩
abbrev main_call0_v2 : Ref sig .tc := ⟨.hbm, 107, rfl⟩
abbrev main_call0_v3 : Ref sig .tc := ⟨.hbm, 108, rfl⟩
abbrev main_call0_cst_0 : Ref sig .tc := ⟨.hbm, 109, rfl⟩
abbrev main_call0_v4 : Ref sig .tc := ⟨.hbm, 110, rfl⟩
abbrev main_call0_v5 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩

abbrev nD : Nat := 1
abbrev τ : Topo := Topo.v7x

variable {F : FTy → Type} [FloatOps F]
-- ==== Kernel3.lean ====
abbrev S16x256x2048 : Shape := ⟨3, ![16, 256, 2048]⟩
abbrev S16x2048x2048 : Shape := ⟨3, ![16, 2048, 2048]⟩
abbrev S12288 : Shape := ⟨1, ![12288]⟩
abbrev S16x12288 : Shape := ⟨2, ![16, 12288]⟩
abbrev S2048 : Shape := ⟨1, ![2048]⟩
abbrev S2048x7200 : Shape := ⟨2, ![2048, 7200]⟩
abbrev S4096x2048 : Shape := ⟨2, ![4096, 2048]⟩
abbrev S32768x2048 : Shape := ⟨2, ![32768, 2048]⟩
abbrev S36864x2048 : Shape := ⟨2, ![36864, 2048]⟩
abbrev S1x12288 : Shape := ⟨2, ![1, 12288]⟩
abbrev S17x12288 : Shape := ⟨2, ![17, 12288]⟩
abbrev S17x1x12288 : Shape := ⟨3, ![17, 1, 12288]⟩
abbrev S1x2048 : Shape := ⟨2, ![1, 2048]⟩
abbrev S36864x7200 : Shape := ⟨2, ![36864, 7200]⟩
abbrev S1024x2048 : Shape := ⟨2, ![1024, 2048]⟩
abbrev S1x1x2048 : Shape := ⟨3, ![1, 1, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 14
  | .vmem => 12
  | .smem => 0
  | _ => 0

abbrev bufTy : (tb : Table) → Fin (tcTables nBuf tb) → BufTy
  | .hbm, ⟨0, _⟩ => ⟨S16x256x2048, .f32⟩
  | .hbm, ⟨1, _⟩ => ⟨S16x2048x2048, .f32⟩
  | .hbm, ⟨2, _⟩ => ⟨S12288, .f32⟩
  | .hbm, ⟨3, _⟩ => ⟨S16x12288, .f32⟩
  | .hbm, ⟨4, _⟩ => ⟨S2048, .f32⟩
  | .hbm, ⟨5, _⟩ => ⟨S2048x7200, .f32⟩
  | .hbm, ⟨6, _⟩ => ⟨S4096x2048, .f32⟩
  | .hbm, ⟨7, _⟩ => ⟨S32768x2048, .f32⟩
  | .hbm, ⟨8, _⟩ => ⟨S36864x2048, .f32⟩
  | .hbm, ⟨9, _⟩ => ⟨S1x12288, .f32⟩
  | .hbm, ⟨10, _⟩ => ⟨S17x12288, .f32⟩
  | .hbm, ⟨11, _⟩ => ⟨S17x1x12288, .f32⟩
  | .hbm, ⟨12, _⟩ => ⟨S1x2048, .f32⟩
  | .hbm, ⟨13, _⟩ => ⟨S36864x7200, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .f32⟩
  | .local _ .vmem, ⟨8, _⟩ => ⟨S2048x512, .f32⟩
  | .local _ .vmem, ⟨9, _⟩ => ⟨S1024x512, .f32⟩
  | .local _ .vmem, ⟨10, _⟩ => ⟨S1024x512, .f32⟩
  | .local _ .vmem, ⟨11, _⟩ => ⟨S1024x2048, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![36, 15], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c1_i32_8 : BitVec 32 := 1#32
  let c0_i32_9 : BitVec 32 := 0#32
  ![v20.toNat, c0_i32_7.toNat, c1_i32_8.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel3Ideal.lean ====
abbrev S16x256x2048 : Shape := ⟨3, ![16, 256, 2048]⟩
abbrev S16x2048x2048 : Shape := ⟨3, ![16, 2048, 2048]⟩
abbrev S12288 : Shape := ⟨1, ![12288]⟩
abbrev S16x12288 : Shape := ⟨2, ![16, 12288]⟩
abbrev S2048 : Shape := ⟨1, ![2048]⟩
abbrev S2048x7200 : Shape := ⟨2, ![2048, 7200]⟩
abbrev S4096x2048 : Shape := ⟨2, ![4096, 2048]⟩
abbrev S32768x2048 : Shape := ⟨2, ![32768, 2048]⟩
abbrev S36864x2048 : Shape := ⟨2, ![36864, 2048]⟩
abbrev S1x12288 : Shape := ⟨2, ![1, 12288]⟩
abbrev S17x12288 : Shape := ⟨2, ![17, 12288]⟩
abbrev S17x1x12288 : Shape := ⟨3, ![17, 1, 12288]⟩
abbrev S1x2048 : Shape := ⟨2, ![1, 2048]⟩
abbrev S36864x7200 : Shape := ⟨2, ![36864, 7200]⟩
abbrev S1024x2048 : Shape := ⟨2, ![1024, 2048]⟩
abbrev S1x1x2048 : Shape := ⟨3, ![1, 1, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 14
  | .vmem => 12
  | .smem => 0
  | _ => 0

abbrev bufTy : (tb : Table) → Fin (tcTables nBuf tb) → BufTy
  | .hbm, ⟨0, _⟩ => ⟨S16x256x2048, .f32⟩
  | .hbm, ⟨1, _⟩ => ⟨S16x2048x2048, .f32⟩
  | .hbm, ⟨2, _⟩ => ⟨S12288, .f32⟩
  | .hbm, ⟨3, _⟩ => ⟨S16x12288, .f32⟩
  | .hbm, ⟨4, _⟩ => ⟨S2048, .f32⟩
  | .hbm, ⟨5, _⟩ => ⟨S2048x7200, .f32⟩
  | .hbm, ⟨6, _⟩ => ⟨S4096x2048, .f32⟩
  | .hbm, ⟨7, _⟩ => ⟨S32768x2048, .f32⟩
  | .hbm, ⟨8, _⟩ => ⟨S36864x2048, .f32⟩
  | .hbm, ⟨9, _⟩ => ⟨S1x12288, .f32⟩
  | .hbm, ⟨10, _⟩ => ⟨S17x12288, .f32⟩
  | .hbm, ⟨11, _⟩ => ⟨S17x1x12288, .f32⟩
  | .hbm, ⟨12, _⟩ => ⟨S1x2048, .f32⟩
  | .hbm, ⟨13, _⟩ => ⟨S36864x7200, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .f32⟩
  | .local _ .vmem, ⟨8, _⟩ => ⟨S2048x512, .f32⟩
  | .local _ .vmem, ⟨9, _⟩ => ⟨S1024x512, .f32⟩
  | .local _ .vmem, ⟨10, _⟩ => ⟨S1024x512, .f32⟩
  | .local _ .vmem, ⟨11, _⟩ => ⟨S1024x2048, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![36, 15], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c1_i32_8 : BitVec 32 := 1#32
  let c0_i32_9 : BitVec 32 := 0#32
  ![v20.toNat, c0_i32_7.toNat, c1_i32_8.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16x256x2048 : Shape := ⟨3, ![16, 256, 2048]⟩
abbrev S16x2048x2048 : Shape := ⟨3, ![16, 2048, 2048]⟩
abbrev S12288 : Shape := ⟨1, ![12288]⟩
abbrev S16x12288 : Shape := ⟨2, ![16, 12288]⟩
abbrev S2048 : Shape := ⟨1, ![2048]⟩
abbrev S2048x7200 : Shape := ⟨2, ![2048, 7200]⟩
abbrev S16x1x12288 : Shape := ⟨3, ![16, 1, 12288]⟩
abbrev S16x1x2048 : Shape := ⟨3, ![16, 1, 2048]⟩
abbrev S1x1x12288 : Shape := ⟨3, ![1, 1, 12288]⟩
abbrev S1x1x2048 : Shape := ⟨3, ![1, 1, 2048]⟩
abbrev S_ : Shape := ⟨0, ![]⟩
abbrev S16x2048 : Shape := ⟨2, ![16, 2048]⟩
abbrev S16x2048x1 : Shape := ⟨3, ![16, 2048, 1]⟩
abbrev S16x256 : Shape := ⟨2, ![16, 256]⟩
abbrev S16x256x1 : Shape := ⟨3, ![16, 256, 1]⟩
abbrev S16x2304x2048 : Shape := ⟨3, ![16, 2304, 2048]⟩
abbrev S16x2304x7200 : Shape := ⟨3, ![16, 2304, 7200]⟩
abbrev S16x256x7200 : Shape := ⟨3, ![16, 256, 7200]⟩
abbrev S16x2048x7200 : Shape := ⟨3, ![16, 2048, 7200]⟩
abbrev S4096x7200 : Shape := ⟨2, ![4096, 7200]⟩
abbrev S32768x7200 : Shape := ⟨2, ![32768, 7200]⟩
abbrev S36864x7200 : Shape := ⟨2, ![36864, 7200]⟩

abbrev nBuf : Space → Nat
  | .hbm => 73
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S16x2048x2048, .f32⟩
  | .hbm, ⟨2, _⟩ => ⟨S12288, .f32⟩
  | .hbm, ⟨3, _⟩ => ⟨S16x12288, .f32⟩
  | .hbm, ⟨4, _⟩ => ⟨S2048, .f32⟩
  | .hbm, ⟨5, _⟩ => ⟨S2048x7200, .f32⟩
  | .hbm, ⟨6, _⟩ => ⟨S16x1x12288, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S16x1x2048, .f32⟩
  | .hbm, ⟨13, _⟩ => ⟨S1x1x12288, .f32⟩
  | .hbm, ⟨14, _⟩ => ⟨S1x1x2048, .f32⟩
  | .hbm, ⟨15, _⟩ => ⟨S1x1x2048, .f32⟩
  | .hbm, ⟨16, _⟩ => ⟨S1x1x2048, .f32⟩
  | .hbm, ⟨17, _⟩ => ⟨S1x1x2048, .f32⟩
  | .hbm, ⟨18, _⟩ => ⟨S1x1x2048, .f32⟩
  | .hbm, ⟨19, _⟩ => ⟨S1x1x2048, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S16x2048x1, .f32⟩
  | .hbm, ⟨31, _⟩ => ⟨S16x2048x2048, .f32⟩
  | .hbm, ⟨32, _⟩ => ⟨S16x2048x2048, .f32⟩
  | .hbm, ⟨33, _⟩ => ⟨S1x1x2048, .f32⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x1x2048, .f32⟩
  | .hbm, ⟨38, _⟩ => ⟨S16x1x2048, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S16x2048x2048, .f32⟩
  | .hbm, ⟨43, _⟩ => ⟨S16x256x2048, .f32⟩
  | .hbm, ⟨44, _⟩ => ⟨S_, .f32⟩
  | .hbm, ⟨45, _⟩ => ⟨S16x256, .f32⟩
  | .hbm, ⟨46, _⟩ => ⟨S16x256x1, .f32⟩
  | .hbm, ⟨47, _⟩ => ⟨S_, .f32⟩
  | .hbm, ⟨48, _⟩ => ⟨S16x256x1, .f32⟩
  | .hbm, ⟨49, _⟩ => ⟨S16x256x1, .f32⟩
  | .hbm, ⟨50, _⟩ => ⟨S_, .f32⟩
  | .hbm, ⟨51, _⟩ => ⟨S16x256x1, .f32⟩
  | .hbm, ⟨52, _⟩ => ⟨S16x256x1, .f32⟩
  | .hbm, ⟨53, _⟩ => ⟨S16x256x1, .f32⟩
  | .hbm, ⟨54, _⟩ => ⟨S16x256x2048, .f32⟩
  | .hbm, ⟨55, _⟩ => ⟨S16x256x2048, .f32⟩
  | .hbm, ⟨56, _⟩ => ⟨S1x1x2048, .f32⟩
  | .hbm, ⟨57, _⟩ => ⟨S16x256x2048, .f32⟩
  | .hbm, ⟨58, _⟩ => ⟨S16x256x2048, .f32⟩
  | .hbm, ⟨59, _⟩ => ⟨S_, .f32⟩
  | .hbm, ⟨60, _⟩ => ⟨S1x1x2048, .f32⟩
  | .hbm, ⟨61, _⟩ => ⟨S1x1x2048, .f32⟩
  | .hbm, ⟨62, _⟩ => ⟨S16x256x2048, .f32⟩
  | .hbm, ⟨63, _⟩ => ⟨S16x256x2048, .f32⟩
  | .hbm, ⟨64, _⟩ => ⟨S16x256x2048, .f32⟩
  | .hbm, ⟨65, _⟩ => ⟨S16x256x2048, .f32⟩
  | .hbm, ⟨66, _⟩ => ⟨S16x2304x2048, .f32⟩
  | .hbm, ⟨67, _⟩ => ⟨S16x2304x7200, .f32⟩
  | .hbm, ⟨68, _⟩ => ⟨S16x256x7200, .f32⟩
  | .hbm, ⟨69, _⟩ => ⟨S16x2048x7200, .f32⟩
  | .hbm, ⟨70, _⟩ => ⟨S4096x7200, .f32⟩
  | .hbm, ⟨71, _⟩ => ⟨S32768x7200, .f32⟩
  | .hbm, ⟨72, _⟩ => ⟨S36864x7200, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩

abbrev nD : Nat := 1
abbrev τ : Topo := Topo.v7x

variable {F : FTy → Type} [FloatOps F]
-- ==== Kernel4.lean ====
abbrev S16x256x2048 : Shape := ⟨3, ![16, 256, 2048]⟩
abbrev S16x2048x2048 : Shape := ⟨3, ![16, 2048, 2048]⟩
abbrev S12288 : Shape := ⟨1, ![12288]⟩
abbrev S16x12288 : Shape := ⟨2, ![16, 12288]⟩
abbrev S2048x2048 : Shape := ⟨2, ![2048, 2048]⟩
abbrev S4096x2048 : Shape := ⟨2, ![4096, 2048]⟩
abbrev S32768x2048 : Shape := ⟨2, ![32768, 2048]⟩
abbrev S36864x2048 : Shape := ⟨2, ![36864, 2048]⟩
abbrev S1x12288 : Shape := ⟨2, ![1, 12288]⟩
abbrev S17x12288 : Shape := ⟨2, ![17, 12288]⟩
abbrev S17x1x12288 : Shape := ⟨3, ![17, 1, 12288]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 17
  | .vmem => 10
  | .smem => 0
  | _ => 0

abbrev bufTy : (tb : Table) → Fin (tcTables nBuf tb) → BufTy
  | .hbm, ⟨0, _⟩ => ⟨S16x256x2048, .f32⟩
  | .hbm, ⟨1, _⟩ => ⟨S16x2048x2048, .f32⟩
  | .hbm, ⟨2, _⟩ => ⟨S12288, .f32⟩
  | .hbm, ⟨3, _⟩ => ⟨S16x12288, .f32⟩
  | .hbm, ⟨4, _⟩ => ⟨S16x256x2048, .f32⟩
  | .hbm, ⟨5, _⟩ => ⟨S16x2048x2048, .f32⟩
  | .hbm, ⟨6, _⟩ => ⟨S2048x2048, .f32⟩
  | .hbm, ⟨7, _⟩ => ⟨S4096x2048, .f32⟩
  | .hbm, ⟨8, _⟩ => ⟨S32768x2048, .f32⟩
  | .hbm, ⟨9, _⟩ => ⟨S36864x2048, .f32⟩
  | .hbm, ⟨10, _⟩ => ⟨S1x12288, .f32⟩
  | .hbm, ⟨11, _⟩ => ⟨S17x12288, .f32⟩
  | .hbm, ⟨12, _⟩ => ⟨S17x1x12288, .f32⟩
  | .hbm, ⟨13, _⟩ => ⟨S4096x2048, .f32⟩
  | .hbm, ⟨14, _⟩ => ⟨S32768x2048, .f32⟩
  | .hbm, ⟨15, _⟩ => ⟨S36864x2048, .f32⟩
  | .hbm, ⟨16, _⟩ => ⟨S36864x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![36, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c8_i32 : BitVec 32 := 8#32
  let v21 : BitVec 32 := Scalar.addi c8_i32 arg1
  let c0_i32_7 : BitVec 32 := 0#32
  let c0_i32_8 : BitVec 32 := 0#32
  ![v20.toNat, c0_i32_7.toNat, v21.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16x256x2048 : Shape := ⟨3, ![16, 256, 2048]⟩
abbrev S16x2048x2048 : Shape := ⟨3, ![16, 2048, 2048]⟩
abbrev S12288 : Shape := ⟨1, ![12288]⟩
abbrev S16x12288 : Shape := ⟨2, ![16, 12288]⟩
abbrev S2048x2048 : Shape := ⟨2, ![2048, 2048]⟩
abbrev S16x1x12288 : Shape := ⟨3, ![16, 1, 12288]⟩
abbrev S16x1x2048 : Shape := ⟨3, ![16, 1, 2048]⟩
abbrev S1x1x12288 : Shape := ⟨3, ![1, 1, 12288]⟩
abbrev S1x1x2048 : Shape := ⟨3, ![1, 1, 2048]⟩
abbrev S16x2304x2048 : Shape := ⟨3, ![16, 2304, 2048]⟩
abbrev S4096x2048 : Shape := ⟨2, ![4096, 2048]⟩
abbrev S32768x2048 : Shape := ⟨2, ![32768, 2048]⟩
abbrev S36864x2048 : Shape := ⟨2, ![36864, 2048]⟩

abbrev nBuf : Space → Nat
  | .hbm => 34
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S16x2048x2048, .f32⟩
  | .hbm, ⟨2, _⟩ => ⟨S12288, .f32⟩
  | .hbm, ⟨3, _⟩ => ⟨S16x12288, .f32⟩
  | .hbm, ⟨4, _⟩ => ⟨S16x256x2048, .f32⟩
  | .hbm, ⟨5, _⟩ => ⟨S16x2048x2048, .f32⟩
  | .hbm, ⟨6, _⟩ => ⟨S2048x2048, .f32⟩
  | .hbm, ⟨7, _⟩ => ⟨S16x1x12288, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S16x1x2048, .f32⟩
  | .hbm, ⟨13, _⟩ => ⟨S16x1x2048, .f32⟩
  | .hbm, ⟨14, _⟩ => ⟨S1x1x12288, .f32⟩
  | .hbm, ⟨15, _⟩ => ⟨S1x1x2048, .f32⟩
  | .hbm, ⟨16, _⟩ => ⟨S1x1x2048, .f32⟩
  | .hbm, ⟨17, _⟩ => ⟨S1x1x2048, .f32⟩
  | .hbm, ⟨18, _⟩ => ⟨S1x1x2048, .f32⟩
  | .hbm, ⟨19, _⟩ => ⟨S1x1x2048, .f32⟩
  | .hbm, ⟨20, _⟩ => ⟨S1x1x2048, .f32⟩
  | .hbm, ⟨21, _⟩ => ⟨S16x2304x2048, .f32⟩
  | .hbm, ⟨22, _⟩ => ⟨S16x2304x2048, .f32⟩
  | .hbm, ⟨23, _⟩ => ⟨S16x256x2048, .f32⟩
  | .hbm, ⟨24, _⟩ => ⟨S16x256x2048, .f32⟩
  | .hbm, ⟨25, _⟩ => ⟨S16x256x2048, .f32⟩
  | .hbm, ⟨26, _⟩ => ⟨S16x256x2048, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S4096x2048, .f32⟩
  | .hbm, ⟨32, _⟩ => ⟨S32768x2048, .f32⟩
  | .hbm, ⟨33, _⟩ => ⟨S36864x2048, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel5.lean ====
abbrev S16x256x2048 : Shape := ⟨3, ![16, 256, 2048]⟩
abbrev S16x2048x2048 : Shape := ⟨3, ![16, 2048, 2048]⟩
abbrev S12288 : Shape := ⟨1, ![12288]⟩
abbrev S16x12288 : Shape := ⟨2, ![16, 12288]⟩
abbrev S36864x2048 : Shape := ⟨2, ![36864, 2048]⟩
abbrev S2048x512 : Shape := ⟨2, ![2048, 512]⟩
abbrev S512x2048 : Shape := ⟨2, ![512, 2048]⟩
abbrev S4096x2048 : Shape := ⟨2, ![4096, 2048]⟩
abbrev S32768x2048 : Shape := ⟨2, ![32768, 2048]⟩
abbrev S1x12288 : Shape := ⟨2, ![1, 12288]⟩
abbrev S17x12288 : Shape := ⟨2, ![17, 12288]⟩
abbrev S17x1x12288 : Shape := ⟨3, ![17, 1, 12288]⟩
abbrev S2048x1024 : Shape := ⟨2, ![2048, 1024]⟩
abbrev S1x1x2048 : Shape := ⟨3, ![1, 1, 2048]⟩
abbrev S512x1024 : Shape := ⟨2, ![512, 1024]⟩
abbrev S512x512 : Shape := ⟨2, ![512, 512]⟩
abbrev S1x2048 : Shape := ⟨2, ![1, 2048]⟩

abbrev nBuf : Space → Nat
  | .hbm => 20
  | .vmem => 12
  | .smem => 0
  | _ => 0

abbrev bufTy : (tb : Table) → Fin (tcTables nBuf tb) → BufTy
  | .hbm, ⟨0, _⟩ => ⟨S16x256x2048, .f32⟩
  | .hbm, ⟨1, _⟩ => ⟨S16x2048x2048, .f32⟩
  | .hbm, ⟨2, _⟩ => ⟨S12288, .f32⟩
  | .hbm, ⟨3, _⟩ => ⟨S16x12288, .f32⟩
  | .hbm, ⟨4, _⟩ => ⟨S36864x2048, .f32⟩
  | .hbm, ⟨5, _⟩ => ⟨S36864x2048, .f32⟩
  | .hbm, ⟨6, _⟩ => ⟨S2048x512, .f32⟩
  | .hbm, ⟨7, _⟩ => ⟨S2048x512, .f32⟩
  | .hbm, ⟨8, _⟩ => ⟨S512x2048, .f32⟩
  | .hbm, ⟨9, _⟩ => ⟨S4096x2048, .f32⟩
  | .hbm, ⟨10, _⟩ => ⟨S32768x2048, .f32⟩
  | .hbm, ⟨11, _⟩ => ⟨S36864x2048, .f32⟩
  | .hbm, ⟨12, _⟩ => ⟨S1x12288, .f32⟩
  | .hbm, ⟨13, _⟩ => ⟨S17x12288, .f32⟩
  | .hbm, ⟨14, _⟩ => ⟨S17x1x12288, .f32⟩
  | .hbm, ⟨15, _⟩ => ⟨S36864x2048, .bf16⟩
  | .hbm, ⟨16, _⟩ => ⟨S2048x1024, .f32⟩
  | .hbm, ⟨17, _⟩ => ⟨S2048x1024, .bf16⟩
  | .hbm, ⟨18, _⟩ => ⟨S512x2048, .bf16⟩
  | .hbm, ⟨19, _⟩ => ⟨S36864x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S1x1x2048, .f32⟩
  | .local _ .vmem, ⟨8, _⟩ => ⟨S2048x1024, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c5_i32 : BitVec 32 := 5#32
  let c0_i32_8 : BitVec 32 := 0#32
  ![v20.toNat, c0_i32_7.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S16x256x2048 : Shape := ⟨3, ![16, 256, 2048]⟩
abbrev S16x2048x2048 : Shape := ⟨3, ![16, 2048, 2048]⟩
abbrev S12288 : Shape := ⟨1, ![12288]⟩
abbrev S16x12288 : Shape := ⟨2, ![16, 12288]⟩
abbrev S36864x2048 : Shape := ⟨2, ![36864, 2048]⟩
abbrev S2048x512 : Shape := ⟨2, ![2048, 512]⟩
abbrev S512x2048 : Shape := ⟨2, ![512, 2048]⟩
abbrev S16x1x12288 : Shape := ⟨3, ![16, 1, 12288]⟩
abbrev S16x1x2048 : Shape := ⟨3, ![16, 1, 2048]⟩
abbrev S1x1x12288 : Shape := ⟨3, ![1, 1, 12288]⟩
abbrev S1x1x2048 : Shape := ⟨3, ![1, 1, 2048]⟩
abbrev S36864x512 : Shape := ⟨2, ![36864, 512]⟩
abbrev S_ : Shape := ⟨0, ![]⟩
abbrev S4096x2048 : Shape := ⟨2, ![4096, 2048]⟩
abbrev S32768x2048 : Shape := ⟨2, ![32768, 2048]⟩

abbrev nBuf : Space → Nat
  | .hbm => 50
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S16x2048x2048, .f32⟩
  | .hbm, ⟨2, _⟩ => ⟨S12288, .f32⟩
  | .hbm, ⟨3, _⟩ => ⟨S16x12288, .f32⟩
  | .hbm, ⟨4, _⟩ => ⟨S36864x2048, .f32⟩
  | .hbm, ⟨5, _⟩ => ⟨S36864x2048, .f32⟩
  | .hbm, ⟨6, _⟩ => ⟨S2048x512, .f32⟩
  | .hbm, ⟨7, _⟩ => ⟨S2048x512, .f32⟩
  | .hbm, ⟨8, _⟩ => ⟨S512x2048, .f32⟩
  | .hbm, ⟨9, _⟩ => ⟨S16x1x12288, .f32⟩
  | .hbm, ⟨10, _⟩ => ⟨S16x1x2048, .f32⟩
  | .hbm, ⟨11, _⟩ => ⟨S16x1x2048, .f32⟩
  | .hbm, ⟨12, _⟩ => ⟨S16x1x2048, .f32⟩
  | .hbm, ⟨13, _⟩ => ⟨S16x1x2048, .f32⟩
  | .hbm, ⟨14, _⟩ => ⟨S16x1x2048, .f32⟩
  | .hbm, ⟨15, _⟩ => ⟨S16x1x2048, .f32⟩
  | .hbm, ⟨16, _⟩ => ⟨S1x1x12288, .f32⟩
  | .hbm, ⟨17, _⟩ => ⟨S1x1x2048, .f32⟩
  | .hbm, ⟨18, _⟩ => ⟨S1x1x2048, .f32⟩
  | .hbm, ⟨19, _⟩ => ⟨S1x1x2048, .f32⟩
  | .hbm, ⟨20, _⟩ => ⟨S1x1x2048, .f32⟩
  | .hbm, ⟨21, _⟩ => ⟨S1x1x2048, .f32⟩
  | .hbm, ⟨22, _⟩ => ⟨S1x1x2048, .f32⟩
  | .hbm, ⟨23, _⟩ => ⟨S36864x512, .f32⟩
  | .hbm, ⟨24, _⟩ => ⟨S36864x512, .f32⟩
  | .hbm, ⟨25, _⟩ => ⟨S36864x512, .f32⟩
  | .hbm, ⟨26, _⟩ => ⟨S_, .f32⟩
  | .hbm, ⟨27, _⟩ => ⟨S36864x512, .f32⟩
  | .hbm, ⟨28, _⟩ => ⟨S36864x512, .f32⟩
  | .hbm, ⟨29, _⟩ => ⟨S_, .f32⟩
  | .hbm, ⟨30, _⟩ => ⟨S36864x512, .f32⟩
  | .hbm, ⟨31, _⟩ => ⟨S36864x512, .f32⟩
  | .hbm, ⟨32, _⟩ => ⟨S36864x512, .f32⟩
  | .hbm, ⟨33, _⟩ => ⟨S36864x512, .f32⟩
  | .hbm, ⟨34, _⟩ => ⟨S36864x512, .f32⟩
  | .hbm, ⟨35, _⟩ => ⟨S36864x2048, .f32⟩
  | .hbm, ⟨36, _⟩ => ⟨S36864x2048, .f32⟩
  | .hbm, ⟨37, _⟩ => ⟨S4096x2048, .f32⟩
  | .hbm, ⟨38, _⟩ => ⟨S16x256x2048, .f32⟩
  | .hbm, ⟨39, _⟩ => ⟨S16x256x2048, .f32⟩
  | .hbm, ⟨40, _⟩ => ⟨S16x256x2048, .f32⟩
  | .hbm, ⟨41, _⟩ => ⟨S16x256x2048, .f32⟩
  | .hbm, ⟨42, _⟩ => ⟨S32768x2048, .f32⟩
  | .hbm, ⟨43, _⟩ => ⟨S16x2048x2048, .f32⟩
  | .hbm, ⟨44, _⟩ => ⟨S16x2048x2048, .f32⟩
  | .hbm, ⟨45, _⟩ => ⟨S16x2048x2048, .f32⟩
  | .hbm, ⟨46, _⟩ => ⟨S16x2048x2048, .f32⟩
  | .hbm, ⟨47, _⟩ => ⟨S4096x2048, .f32⟩
  | .hbm, ⟨48, _⟩ => ⟨S32768x2048, .f32⟩
  | .hbm, ⟨49, _⟩ => ⟨S36864x2048, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Kernel6.lean ====
abbrev S16x256x2048 : Shape := ⟨3, ![16, 256, 2048]⟩
abbrev S16x2048x2048 : Shape := ⟨3, ![16, 2048, 2048]⟩
abbrev S12288 : Shape := ⟨1, ![12288]⟩
abbrev S16x12288 : Shape := ⟨2, ![16, 12288]⟩
abbrev S2048 : Shape := ⟨1, ![2048]⟩
abbrev S2048x2560 : Shape := ⟨2, ![2048, 2560]⟩
abbrev S4096x2048 : Shape := ⟨2, ![4096, 2048]⟩
abbrev S32768x2048 : Shape := ⟨2, ![32768, 2048]⟩
abbrev S36864x2048 : Shape := ⟨2, ![36864, 2048]⟩
abbrev S1x12288 : Shape := ⟨2, ![1, 12288]⟩
abbrev S17x12288 : Shape := ⟨2, ![17, 12288]⟩
abbrev S17x1x12288 : Shape := ⟨3, ![17, 1, 12288]⟩
abbrev S1x2048 : Shape := ⟨2, ![1, 2048]⟩
abbrev S36864x2560 : Shape := ⟨2, ![36864, 2560]⟩
abbrev S1024x2048 : Shape := ⟨2, ![1024, 2048]⟩
abbrev S1x1x2048 : Shape := ⟨3, ![1, 1, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 14
  | .vmem => 12
  | .smem => 0
  | _ => 0

abbrev bufTy : (tb : Table) → Fin (tcTables nBuf tb) → BufTy
  | .hbm, ⟨0, _⟩ => ⟨S16x256x2048, .f32⟩
  | .hbm, ⟨1, _⟩ => ⟨S16x2048x2048, .f32⟩
  | .hbm, ⟨2, _⟩ => ⟨S12288, .f32⟩
  | .hbm, ⟨3, _⟩ => ⟨S16x12288, .f32⟩
  | .hbm, ⟨4, _⟩ => ⟨S2048, .f32⟩
  | .hbm, ⟨5, _⟩ => ⟨S2048x2560, .f32⟩
  | .hbm, ⟨6, _⟩ => ⟨S4096x2048, .f32⟩
  | .hbm, ⟨7, _⟩ => ⟨S32768x2048, .f32⟩
  | .hbm, ⟨8, _⟩ => ⟨S36864x2048, .f32⟩
  | .hbm, ⟨9, _⟩ => ⟨S1x12288, .f32⟩
  | .hbm, ⟨10, _⟩ => ⟨S17x12288, .f32⟩
  | .hbm, ⟨11, _⟩ => ⟨S17x1x12288, .f32⟩
  | .hbm, ⟨12, _⟩ => ⟨S1x2048, .f32⟩
  | .hbm, ⟨13, _⟩ => ⟨S36864x2560, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .f32⟩
  | .local _ .vmem, ⟨8, _⟩ => ⟨S2048x512, .f32⟩
  | .local _ .vmem, ⟨9, _⟩ => ⟨S1024x512, .f32⟩
  | .local _ .vmem, ⟨10, _⟩ => ⟨S1024x512, .f32⟩
  | .local _ .vmem, ⟨11, _⟩ => ⟨S1024x2048, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![36, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c1_i32_8 : BitVec 32 := 1#32
  let c0_i32_9 : BitVec 32 := 0#32
  ![v20.toNat, c0_i32_7.toNat, c1_i32_8.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16x256x2048 : Shape := ⟨3, ![16, 256, 2048]⟩
abbrev S16x2048x2048 : Shape := ⟨3, ![16, 2048, 2048]⟩
abbrev S12288 : Shape := ⟨1, ![12288]⟩
abbrev S16x12288 : Shape := ⟨2, ![16, 12288]⟩
abbrev S2048 : Shape := ⟨1, ![2048]⟩
abbrev S2048x2560 : Shape := ⟨2, ![2048, 2560]⟩
abbrev S16x1x12288 : Shape := ⟨3, ![16, 1, 12288]⟩
abbrev S16x1x2048 : Shape := ⟨3, ![16, 1, 2048]⟩
abbrev S1x1x12288 : Shape := ⟨3, ![1, 1, 12288]⟩
abbrev S1x1x2048 : Shape := ⟨3, ![1, 1, 2048]⟩
abbrev S_ : Shape := ⟨0, ![]⟩
abbrev S16x2048 : Shape := ⟨2, ![16, 2048]⟩
abbrev S16x2048x1 : Shape := ⟨3, ![16, 2048, 1]⟩
abbrev S16x256 : Shape := ⟨2, ![16, 256]⟩
abbrev S16x256x1 : Shape := ⟨3, ![16, 256, 1]⟩
abbrev S16x2304x2048 : Shape := ⟨3, ![16, 2304, 2048]⟩
abbrev S16x2304x2560 : Shape := ⟨3, ![16, 2304, 2560]⟩
abbrev S16x256x2560 : Shape := ⟨3, ![16, 256, 2560]⟩
abbrev S16x2048x2560 : Shape := ⟨3, ![16, 2048, 2560]⟩
abbrev S4096x2560 : Shape := ⟨2, ![4096, 2560]⟩
abbrev S32768x2560 : Shape := ⟨2, ![32768, 2560]⟩
abbrev S36864x2560 : Shape := ⟨2, ![36864, 2560]⟩

abbrev nBuf : Space → Nat
  | .hbm => 73
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S16x2048x2048, .f32⟩
  | .hbm, ⟨2, _⟩ => ⟨S12288, .f32⟩
  | .hbm, ⟨3, _⟩ => ⟨S16x12288, .f32⟩
  | .hbm, ⟨4, _⟩ => ⟨S2048, .f32⟩
  | .hbm, ⟨5, _⟩ => ⟨S2048x2560, .f32⟩
  | .hbm, ⟨6, _⟩ => ⟨S16x1x12288, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S16x1x2048, .f32⟩
  | .hbm, ⟨13, _⟩ => ⟨S1x1x12288, .f32⟩
  | .hbm, ⟨14, _⟩ => ⟨S1x1x2048, .f32⟩
  | .hbm, ⟨15, _⟩ => ⟨S1x1x2048, .f32⟩
  | .hbm, ⟨16, _⟩ => ⟨S1x1x2048, .f32⟩
  | .hbm, ⟨17, _⟩ => ⟨S1x1x2048, .f32⟩
  | .hbm, ⟨18, _⟩ => ⟨S1x1x2048, .f32⟩
  | .hbm, ⟨19, _⟩ => ⟨S1x1x2048, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S16x2048x1, .f32⟩
  | .hbm, ⟨31, _⟩ => ⟨S16x2048x2048, .f32⟩
  | .hbm, ⟨32, _⟩ => ⟨S16x2048x2048, .f32⟩
  | .hbm, ⟨33, _⟩ => ⟨S1x1x2048, .f32⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x1x2048, .f32⟩
  | .hbm, ⟨38, _⟩ => ⟨S16x1x2048, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S16x2048x2048, .f32⟩
  | .hbm, ⟨43, _⟩ => ⟨S16x256x2048, .f32⟩
  | .hbm, ⟨44, _⟩ => ⟨S_, .f32⟩
  | .hbm, ⟨45, _⟩ => ⟨S16x256, .f32⟩
  | .hbm, ⟨46, _⟩ => ⟨S16x256x1, .f32⟩
  | .hbm, ⟨47, _⟩ => ⟨S_, .f32⟩
  | .hbm, ⟨48, _⟩ => ⟨S16x256x1, .f32⟩
  | .hbm, ⟨49, _⟩ => ⟨S16x256x1, .f32⟩
  | .hbm, ⟨50, _⟩ => ⟨S_, .f32⟩
  | .hbm, ⟨51, _⟩ => ⟨S16x256x1, .f32⟩
  | .hbm, ⟨52, _⟩ => ⟨S16x256x1, .f32⟩
  | .hbm, ⟨53, _⟩ => ⟨S16x256x1, .f32⟩
  | .hbm, ⟨54, _⟩ => ⟨S16x256x2048, .f32⟩
  | .hbm, ⟨55, _⟩ => ⟨S16x256x2048, .f32⟩
  | .hbm, ⟨56, _⟩ => ⟨S1x1x2048, .f32⟩
  | .hbm, ⟨57, _⟩ => ⟨S16x256x2048, .f32⟩
  | .hbm, ⟨58, _⟩ => ⟨S16x256x2048, .f32⟩
  | .hbm, ⟨59, _⟩ => ⟨S_, .f32⟩
  | .hbm, ⟨60, _⟩ => ⟨S1x1x2048, .f32⟩
  | .hbm, ⟨61, _⟩ => ⟨S1x1x2048, .f32⟩
  | .hbm, ⟨62, _⟩ => ⟨S16x256x2048, .f32⟩
  | .hbm, ⟨63, _⟩ => ⟨S16x256x2048, .f32⟩
  | .hbm, ⟨64, _⟩ => ⟨S16x256x2048, .f32⟩
  | .hbm, ⟨65, _⟩ => ⟨S16x256x2048, .f32⟩
  | .hbm, ⟨66, _⟩ => ⟨S16x2304x2048, .f32⟩
  | .hbm, ⟨67, _⟩ => ⟨S16x2304x2560, .f32⟩
  | .hbm, ⟨68, _⟩ => ⟨S16x256x2560, .f32⟩
  | .hbm, ⟨69, _⟩ => ⟨S16x2048x2560, .f32⟩
  | .hbm, ⟨70, _⟩ => ⟨S4096x2560, .f32⟩
  | .hbm, ⟨71, _⟩ => ⟨S32768x2560, .f32⟩
  | .hbm, ⟨72, _⟩ => ⟨S36864x2560, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩

abbrev nD : Nat := 1
abbrev τ : Topo := Topo.v7x

variable {F : FTy → Type} [FloatOps F]
-- ==== Kernel7.lean ====
abbrev S16x256x2048 : Shape := ⟨3, ![16, 256, 2048]⟩
abbrev S16x2048x2048 : Shape := ⟨3, ![16, 2048, 2048]⟩
abbrev S12288 : Shape := ⟨1, ![12288]⟩
abbrev S16x12288 : Shape := ⟨2, ![16, 12288]⟩
abbrev S2048 : Shape := ⟨1, ![2048]⟩
abbrev S2048x64 : Shape := ⟨2, ![2048, 64]⟩
abbrev S4096x2048 : Shape := ⟨2, ![4096, 2048]⟩
abbrev S32768x2048 : Shape := ⟨2, ![32768, 2048]⟩
abbrev S36864x2048 : Shape := ⟨2, ![36864, 2048]⟩
abbrev S1x12288 : Shape := ⟨2, ![1, 12288]⟩
abbrev S17x12288 : Shape := ⟨2, ![17, 12288]⟩
abbrev S17x1x12288 : Shape := ⟨3, ![17, 1, 12288]⟩
abbrev S1x2048 : Shape := ⟨2, ![1, 2048]⟩
abbrev S64x2048 : Shape := ⟨2, ![64, 2048]⟩
abbrev S64x36864 : Shape := ⟨2, ![64, 36864]⟩
abbrev S512x2048 : Shape := ⟨2, ![512, 2048]⟩
abbrev S1x1x2048 : Shape := ⟨3, ![1, 1, 2048]⟩
abbrev S64x512 : Shape := ⟨2, ![64, 512]⟩
abbrev S512 : Shape := ⟨1, ![512]⟩
abbrev S512x1 : Shape := ⟨2, ![512, 1]⟩

abbrev nBuf : Space → Nat
  | .hbm => 16
  | .vmem => 12
  | .smem => 0
  | _ => 0

abbrev bufTy : (tb : Table) → Fin (tcTables nBuf tb) → BufTy
  | .hbm, ⟨0, _⟩ => ⟨S16x256x2048, .f32⟩
  | .hbm, ⟨1, _⟩ => ⟨S16x2048x2048, .f32⟩
  | .hbm, ⟨2, _⟩ => ⟨S12288, .f32⟩
  | .hbm, ⟨3, _⟩ => ⟨S16x12288, .f32⟩
  | .hbm, ⟨4, _⟩ => ⟨S2048, .f32⟩
  | .hbm, ⟨5, _⟩ => ⟨S2048x64, .f32⟩
  | .hbm, ⟨6, _⟩ => ⟨S4096x2048, .f32⟩
  | .hbm, ⟨7, _⟩ => ⟨S32768x2048, .f32⟩
  | .hbm, ⟨8, _⟩ => ⟨S36864x2048, .f32⟩
  | .hbm, ⟨9, _⟩ => ⟨S1x12288, .f32⟩
  | .hbm, ⟨10, _⟩ => ⟨S17x12288, .f32⟩
  | .hbm, ⟨11, _⟩ => ⟨S17x1x12288, .f32⟩
  | .hbm, ⟨12, _⟩ => ⟨S1x2048, .f32⟩
  | .hbm, ⟨13, _⟩ => ⟨S64x2048, .f32⟩
  | .hbm, ⟨14, _⟩ => ⟨S36864x2048, .bf16⟩
  | .hbm, ⟨15, _⟩ => ⟨S64x36864, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S64x2048, .f32⟩
  | .local _ .vmem, ⟨8, _⟩ => ⟨S512x2048, .bf16⟩
  | .local _ .vmem, ⟨9, _⟩ => ⟨S512x2048, .bf16⟩
  | .local _ .vmem, ⟨10, _⟩ => ⟨S64x512, .f32⟩
  | .local _ .vmem, ⟨11, _⟩ => ⟨S64x512, .f32⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c3_i32 : BitVec 32 := 3#32
  let c0_i32_8 : BitVec 32 := 0#32
  ![v20.toNat, c0_i32_7.toNat, c3_i32.toNat]

def cc0_transform_3 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c4_i32_8 : BitVec 32 := 4#32
  let c0_i32_9 : BitVec 32 := 0#32
  ![v20.toNat, c0_i32_7.toNat, c4_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S16x256x2048 : Shape := ⟨3, ![16, 256, 2048]⟩
abbrev S16x2048x2048 : Shape := ⟨3, ![16, 2048, 2048]⟩
abbrev S12288 : Shape := ⟨1, ![12288]⟩
abbrev S16x12288 : Shape := ⟨2, ![16, 12288]⟩
abbrev S2048 : Shape := ⟨1, ![2048]⟩
abbrev S2048x64 : Shape := ⟨2, ![2048, 64]⟩
abbrev S16x1x12288 : Shape := ⟨3, ![16, 1, 12288]⟩
abbrev S16x1x2048 : Shape := ⟨3, ![16, 1, 2048]⟩
abbrev S1x1x12288 : Shape := ⟨3, ![1, 1, 12288]⟩
abbrev S1x1x2048 : Shape := ⟨3, ![1, 1, 2048]⟩
abbrev S_ : Shape := ⟨0, ![]⟩
abbrev S16x2048 : Shape := ⟨2, ![16, 2048]⟩
abbrev S16x2048x1 : Shape := ⟨3, ![16, 2048, 1]⟩
abbrev S16x256 : Shape := ⟨2, ![16, 256]⟩
abbrev S16x256x1 : Shape := ⟨3, ![16, 256, 1]⟩
abbrev S4096x2048 : Shape := ⟨2, ![4096, 2048]⟩
abbrev S32768x2048 : Shape := ⟨2, ![32768, 2048]⟩
abbrev S36864x2048 : Shape := ⟨2, ![36864, 2048]⟩
abbrev S36864x64 : Shape := ⟨2, ![36864, 64]⟩
abbrev S64x36864 : Shape := ⟨2, ![64, 36864]⟩

abbrev nBuf : Space → Nat
  | .hbm => 72
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S16x2048x2048, .f32⟩
  | .hbm, ⟨2, _⟩ => ⟨S12288, .f32⟩
  | .hbm, ⟨3, _⟩ => ⟨S16x12288, .f32⟩
  | .hbm, ⟨4, _⟩ => ⟨S2048, .f32⟩
  | .hbm, ⟨5, _⟩ => ⟨S2048x64, .f32⟩
  | .hbm, ⟨6, _⟩ => ⟨S16x1x12288, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S16x1x2048, .f32⟩
  | .hbm, ⟨13, _⟩ => ⟨S1x1x12288, .f32⟩
  | .hbm, ⟨14, _⟩ => ⟨S1x1x2048, .f32⟩
  | .hbm, ⟨15, _⟩ => ⟨S1x1x2048, .f32⟩
  | .hbm, ⟨16, _⟩ => ⟨S1x1x2048, .f32⟩
  | .hbm, ⟨17, _⟩ => ⟨S1x1x2048, .f32⟩
  | .hbm, ⟨18, _⟩ => ⟨S1x1x2048, .f32⟩
  | .hbm, ⟨19, _⟩ => ⟨S1x1x2048, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S16x2048x1, .f32⟩
  | .hbm, ⟨31, _⟩ => ⟨S16x2048x2048, .f32⟩
  | .hbm, ⟨32, _⟩ => ⟨S16x2048x2048, .f32⟩
  | .hbm, ⟨33, _⟩ => ⟨S1x1x2048, .f32⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x1x2048, .f32⟩
  | .hbm, ⟨38, _⟩ => ⟨S16x1x2048, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S16x2048x2048, .f32⟩
  | .hbm, ⟨43, _⟩ => ⟨S16x256x2048, .f32⟩
  | .hbm, ⟨44, _⟩ => ⟨S_, .f32⟩
  | .hbm, ⟨45, _⟩ => ⟨S16x256, .f32⟩
  | .hbm, ⟨46, _⟩ => ⟨S16x256x1, .f32⟩
  | .hbm, ⟨47, _⟩ => ⟨S_, .f32⟩
  | .hbm, ⟨48, _⟩ => ⟨S16x256x1, .f32⟩
  | .hbm, ⟨49, _⟩ => ⟨S16x256x1, .f32⟩
  | .hbm, ⟨50, _⟩ => ⟨S_, .f32⟩
  | .hbm, ⟨51, _⟩ => ⟨S16x256x1, .f32⟩
  | .hbm, ⟨52, _⟩ => ⟨S16x256x1, .f32⟩
  | .hbm, ⟨53, _⟩ => ⟨S16x256x1, .f32⟩
  | .hbm, ⟨54, _⟩ => ⟨S16x256x2048, .f32⟩
  | .hbm, ⟨55, _⟩ => ⟨S16x256x2048, .f32⟩
  | .hbm, ⟨56, _⟩ => ⟨S1x1x2048, .f32⟩
  | .hbm, ⟨57, _⟩ => ⟨S16x256x2048, .f32⟩
  | .hbm, ⟨58, _⟩ => ⟨S16x256x2048, .f32⟩
  | .hbm, ⟨59, _⟩ => ⟨S_, .f32⟩
  | .hbm, ⟨60, _⟩ => ⟨S1x1x2048, .f32⟩
  | .hbm, ⟨61, _⟩ => ⟨S1x1x2048, .f32⟩
  | .hbm, ⟨62, _⟩ => ⟨S16x256x2048, .f32⟩
  | .hbm, ⟨63, _⟩ => ⟨S16x256x2048, .f32⟩
  | .hbm, ⟨64, _⟩ => ⟨S16x256x2048, .f32⟩
  | .hbm, ⟨65, _⟩ => ⟨S16x256x2048, .f32⟩
  | .hbm, ⟨66, _⟩ => ⟨S4096x2048, .f32⟩
  | .hbm, ⟨67, _⟩ => ⟨S32768x2048, .f32⟩
  | .hbm, ⟨68, _⟩ => ⟨S36864x2048, .f32⟩
  | .hbm, ⟨69, _⟩ => ⟨S36864x2048, .bf16⟩
  | .hbm, ⟨70, _⟩ => ⟨S36864x64, .f32⟩
  | .hbm, ⟨71, _⟩ => ⟨S64x36864, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Proof.Spec.lean ====
/- The differential attention of ONE query of one head, over the extended reals, in plain terms: the scores of the two
   components against a context part and a latent part of the keys, the softmax over both parts together, the
   difference of the two maps, the weighted values, the root-mean-square norm. Then the facts that join the two parts:
   a maximum or a sum over the concatenated keys is the one over the two parts. -/
module

public import Idealize.ShloMosaic.Lib.Pointwise

@[expose] public section

set_option maxRecDepth 16384

noncomputable section

open Idealize.ShloMosaic

namespace Cert.Attn

/-- The score of one query component against one key component: their product, scaled. -/
def score (q k : Fin 128 → EReal) : EReal := (∑ d, q d * k d) * Ideal.ofBits .f32 0x3DB504F3#32

/-- The largest score over the two parts of the keys. -/
def top (sc : Fin 256 → EReal) (sx : Fin 2048 → EReal) : EReal :=
  max (Finset.univ.fold max (Ideal.ofBits .f32 0xFF800000#32) sc) (Finset.univ.fold max (Ideal.ofBits .f32 0xFF800000#32) sx)

/-- The softmax's denominator: the exponentials of both parts, summed. -/
def total (sc : Fin 256 → EReal) (sx : Fin 2048 → EReal) : EReal :=
  ∑ x, Ideal.exp (sc x - top sc sx) + ∑ x, Ideal.exp (sx x - top sc sx)

/-- The softmax's value at a key whose score is `s`. -/
def prob (sc : Fin 256 → EReal) (sx : Fin 2048 → EReal) (s : EReal) : EReal :=
  Ideal.div (Ideal.exp (s - top sc sx)) (total sc sx)

/-- The differential weight of a key: the first component's softmax less `lam` times the second's. -/
def weight (lam : EReal) (sc0 sc1 : Fin 256 → EReal) (sx0 sx1 : Fin 2048 → EReal) (s0 s1 : EReal) : EReal :=
  prob sc0 sx0 s0 - lam * prob sc1 sx1 s1

/-- The weighted sum of the values at one feature. -/
def mix (lam : EReal) (sc0 sc1 : Fin 256 → EReal) (sx0 sx1 : Fin 2048 → EReal) (vc : Fin 256 → EReal) (vx : Fin 2048 → EReal) : EReal :=
  ∑ x, weight lam sc0 sc1 sx0 sx1 (sc0 x) (sc1 x) * vc x + ∑ x, weight lam sc0 sc1 sx0 sx1 (sx0 x) (sx1 x) * vx x

/-- The root-mean-square norm of a row of 256 features at one feature, times its weight and the layer's constant. -/
def normed (o : Fin 256 → EReal) (w : EReal) (d : Fin 256) : EReal :=
  o d * Ideal.rsqrt (Ideal.div (∑ x, o x * o x) (Ideal.ofBits .f32 0x43800000#32) + Ideal.ofBits .f32 0x358637BD#32) * w
    * Ideal.ofBits .f32 0x3F4CCCCD#32

/-- A function of the concatenated keys from one of the latent keys (the first 2048) and one of the context keys. -/
def join {α : Type} (fx : Fin 2048 → α) (fc : Fin 256 → α) (k : Fin 2304) : α :=
  if h : (k : ℕ) < 2048 then fx ⟨k, h⟩ else fc ⟨k - 2048, by omega⟩

theorem join_left {α : Type} (fx : Fin 2048 → α) (fc : Fin 256 → α) (j : Fin 2048) :
    join fx fc ⟨j, by omega⟩ = fx j := by
  unfold join
  rw [dif_pos j.isLt]

theorem join_right {α : Type} (fx : Fin 2048 → α) (fc : Fin 256 → α) (j : Fin 256) :
    join fx fc ⟨2048 + j, by omega⟩ = fc j := by
  unfold join
  have h : ¬ (2048 + (j : ℕ)) < 2048 := by omega
  rw [dif_neg h]
  exact congrArg fc (Fin.ext (Nat.add_sub_cancel_left 2048 j))

/-- A sum over the concatenated keys is the sum over the latent ones and the sum over the context ones. -/
theorem sum_join (f : Fin 2304 → EReal) :
    ∑ k, f k = ∑ j : Fin 2048, f ⟨j, by omega⟩ + ∑ j : Fin 256, f ⟨2048 + j, by omega⟩ :=
  Fin.sum_univ_add (a := 2048) (b := 256) f

/-- The largest score over the concatenated keys is the largest over the two parts. -/
theorem fold_join (fx : Fin 2048 → EReal) (fc : Fin 256 → EReal) :
    Finset.univ.fold max (Ideal.ofBits .f32 0xFF800000#32) (join fx fc) = top fc fx := by
  refine eq_of_forall_ge_iff fun z => ?_
  unfold top
  rw [max_le_iff, Finset.fold_max_le, Finset.fold_max_le, Finset.fold_max_le]
  constructor
  · rintro ⟨h0, h⟩
    refine ⟨⟨h0, fun x _ => ?_⟩, h0, fun x _ => ?_⟩
    · rw [← join_right fx fc x]; exact h _ (Finset.mem_univ _)
    · rw [← join_left fx fc x]; exact h _ (Finset.mem_univ _)
  · rintro ⟨⟨h0, hc⟩, _, hx⟩
    refine ⟨h0, fun k _ => ?_⟩
    unfold join
    split
    · exact hx _ (Finset.mem_univ _)
    · exact hc _ (Finset.mem_univ _)

/-- The maximum's starting value is already in it. -/
theorem max_top (fc : Fin 256 → EReal) (fx : Fin 2048 → EReal) :
    max (Ideal.ofBits .f32 0xFF800000#32) (top fc fx) = top fc fx := by
  refine max_eq_right ?_
  unfold top
  refine le_trans ?_ (le_max_left _ _)
  exact (Finset.le_fold_max _).2 (Or.inl le_rfl)

end Cert.Attn

end
-- ==== Proof.Block.lean ====
/- What the kernel's body stores for one grid point, read at an index: the differential attention of one query
   (`Cert.Attn`), in terms of the point's input blocks. -/
module

public import proofs.«01_k».proof.Proof.Gen.KernelIdeal.Frame
public import proofs.«01_k».proof.Proof.Spec

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn

variable (v1 v4 : Vec Ideal S1x256x256 .bf16) (v12 : Vec Ideal S1x2048x256 .bf16)

/-- First component: a query's score against a context key. -/
theorem pay4_apply (r c : Fin 256) : k0_pay4 v1 v4 (ix2 r c)
    = score (fun d => v1 (ix3 0 r ⟨d, by omega⟩)) (fun d => v4 (ix3 0 c ⟨d, by omega⟩)) := by
  pointwise [k0_pay4, k0_pay3, k0_pay2, score]

/-- First component: a query's score against a latent key. -/
theorem pay5_apply (r : Fin 256) (c : Fin 2048) : k0_pay5 v1 v12 (ix2 r c)
    = score (fun d => v1 (ix3 0 r ⟨d, by omega⟩)) (fun d => v12 (ix3 0 c ⟨d, by omega⟩)) := by
  pointwise [k0_pay5, k0_pay3, k0_pay2, score]

/-- First component: the largest score. -/
theorem pay6_apply (r : Fin 256) : k0_pay6 v1 v4 v12 (ix2 r 0)
    = top (fun c => k0_pay4 v1 v4 (ix2 r c)) (fun c => k0_pay5 v1 v12 (ix2 r c)) := by
  pointwise [k0_pay6, top]

/-- First component: the softmax at a context key. -/
theorem pay10_apply (r c : Fin 256) : k0_pay10 v1 v4 v12 (ix2 r c)
    = prob (fun c => k0_pay4 v1 v4 (ix2 r c)) (fun c => k0_pay5 v1 v12 (ix2 r c)) (k0_pay4 v1 v4 (ix2 r c)) := by
  unfold prob total
  rw [← pay6_apply]
  pointwise [k0_pay10, k0_pay9, k0_pay8, k0_pay7]

/-- First component: the softmax at a latent key. -/
theorem pay11_apply (r : Fin 256) (c : Fin 2048) : k0_pay11 v1 v4 v12 (ix2 r c)
    = prob (fun c => k0_pay4 v1 v4 (ix2 r c)) (fun c => k0_pay5 v1 v12 (ix2 r c)) (k0_pay5 v1 v12 (ix2 r c)) := by
  unfold prob total
  rw [← pay6_apply]
  pointwise [k0_pay11, k0_pay9, k0_pay8, k0_pay7]

/-- Second component: a query's score against a context key. -/
theorem pay13_apply (r c : Fin 256) : k0_pay13 (k0_pay12 v1) v4 (ix2 r c)
    = score (fun d => v1 (ix3 0 r ⟨128 + d, by omega⟩)) (fun d => v4 (ix3 0 c ⟨128 + d, by omega⟩)) := by
  pointwise [k0_pay13, k0_pay12, k0_pay2, score]

/-- Second component: a query's score against a latent key. -/
theorem pay14_apply (r : Fin 256) (c : Fin 2048) : k0_pay14 (k0_pay12 v1) v12 (ix2 r c)
    = score (fun d => v1 (ix3 0 r ⟨128 + d, by omega⟩)) (fun d => v12 (ix3 0 c ⟨128 + d, by omega⟩)) := by
  pointwise [k0_pay14, k0_pay12, k0_pay2, score]

variable (v36 : FVec Ideal S256x128 .bf16)

/-- Second component: the largest score. -/
theorem pay15_apply (r : Fin 256) : k0_pay15 v36 v4 v12 (ix2 r 0)
    = top (fun c => k0_pay13 v36 v4 (ix2 r c)) (fun c => k0_pay14 v36 v12 (ix2 r c)) := by
  pointwise [k0_pay15, top]

variable (lam : Elt Ideal .f32) (v33 : FVec Ideal S256x256 .f32) (v35 : FVec Ideal S256x2048 .f32)
  (vc : Vec Ideal S1x256x256 .f32) (vx : Vec Ideal S1x2048x256 .f32) (sub : Vec Ideal S1x256 .f32)

/-- The weighted values of the context keys. -/
theorem pay19_apply (r d : Fin 256) : k0_pay19 lam v33 v36 v4 v12 vc (ix2 r d)
    = ∑ c, (v33 (ix2 r c) - lam * prob (fun c => k0_pay13 v36 v4 (ix2 r c)) (fun c => k0_pay14 v36 v12 (ix2 r c)) (k0_pay13 v36 v4 (ix2 r c)))
        * vc (ix3 0 c d) := by
  unfold prob total
  rw [← pay15_apply]
  pointwise [k0_pay19, k0_pay18, k0_pay17, k0_pay16]

/-- The differential weights of the latent keys. -/
theorem pay20_apply (r : Fin 256) (c : Fin 2048) : k0_pay20 lam v35 v36 v4 v12 (ix2 r c)
    = v35 (ix2 r c) - lam * prob (fun c => k0_pay13 v36 v4 (ix2 r c)) (fun c => k0_pay14 v36 v12 (ix2 r c)) (k0_pay14 v36 v12 (ix2 r c)) := by
  unfold prob total
  rw [← pay15_apply]
  pointwise [k0_pay20, k0_pay18, k0_pay17, k0_pay16]

/-- The weighted values, normed. -/
theorem pay1_apply (v76 : FVec Ideal S256x256 .f32) (v80 : FVec Ideal S256x2048 .bf16) (r d : Fin 256) :
    k0_pay1 v76 v80 vx sub (ix3 0 r d)
      = normed (fun d => v76 (ix2 r d) + ∑ c, v80 (ix2 r c) * vx (ix3 0 c d)) (sub (ix2 0 d)) d := by
  unfold normed
  pointwise [k0_pay1]

/-- The stored block at a query and a feature. -/
theorem stored (r d : Fin 256) :
    k0_pay1 (k0_pay19 lam (k0_pay10 v1 v4 v12) (k0_pay12 v1) v4 v12 vc) (k0_pay20 lam (k0_pay11 v1 v4 v12) (k0_pay12 v1) v4 v12) vx sub (ix3 0 r d)
      = normed (fun d => mix lam
          (fun c => score (fun d => v1 (ix3 0 r ⟨d, by omega⟩)) (fun d => v4 (ix3 0 c ⟨d, by omega⟩)))
          (fun c => score (fun d => v1 (ix3 0 r ⟨128 + d, by omega⟩)) (fun d => v4 (ix3 0 c ⟨128 + d, by omega⟩)))
          (fun c => score (fun d => v1 (ix3 0 r ⟨d, by omega⟩)) (fun d => v12 (ix3 0 c ⟨d, by omega⟩)))
          (fun c => score (fun d => v1 (ix3 0 r ⟨128 + d, by omega⟩)) (fun d => v12 (ix3 0 c ⟨128 + d, by omega⟩)))
          (fun c => vc (ix3 0 c d)) (fun c => vx (ix3 0 c d))) (sub (ix2 0 d)) d := by
  rw [pay1_apply]
  unfold mix weight
  simp only [pay19_apply, pay20_apply, pay10_apply, pay11_apply, pay13_apply, pay14_apply, pay4_apply, pay5_apply]

end Cert.KernelIdeal.Attn

end
-- ==== Proof.RefRead.lean ====
/- The reference's value read at an index: the differential attention of one query (`Cert.Attn`), in terms of the
   argument arrays. -/
module

public import proofs.«01_k».proof.Proof.Gen.ReferenceIdeal.Read
public import proofs.«01_k».proof.Proof.Spec

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Read Cert.Attn

variable (x0 : (⟨S4x128, .f32⟩ : BufTy).Contents (Elt Ideal)) (x1 : (⟨S16x2048x4x2x128, .f32⟩ : BufTy).Contents (Elt Ideal))
  (x2 : (⟨S16x256x4x2x128, .f32⟩ : BufTy).Contents (Elt Ideal)) (x3 : (⟨S16x256x4x256, .f32⟩ : BufTy).Contents (Elt Ideal))
  (x4 : (⟨S16x2048x4x2x128, .f32⟩ : BufTy).Contents (Elt Ideal)) (x5 : (⟨S16x2048x4x256, .f32⟩ : BufTy).Contents (Elt Ideal))
  (x6 : (⟨S256, .f32⟩ : BufTy).Contents (Elt Ideal))

/-- A query's score against a context key, at one component. -/
def sc (b : Fin 16) (h : Fin 4) (q : Fin 2048) (c : Fin 2) (k : Fin 256) : EReal :=
  score (fun d => x1 (ix5 b q h c d)) (fun d => x2 (ix5 b k h c d))

/-- A query's score against a latent key, at one component. -/
def sx (b : Fin 16) (h : Fin 4) (q : Fin 2048) (c : Fin 2) (k : Fin 2048) : EReal :=
  score (fun d => x1 (ix5 b q h c d)) (fun d => x4 (ix5 b k h c d))

/-- A query's differential attention at one feature. -/
def mixed (lam : EReal) (b : Fin 16) (h : Fin 4) (q : Fin 2048) (d : Fin 256) : EReal :=
  mix lam (sc x1 x2 b h q 0) (sc x1 x2 b h q 1) (sx x1 x4 b h q 0) (sx x1 x4 b h q 1)
    (fun k => x3 (ix4 b k h d)) (fun k => x5 (ix4 b k h d))

/-- The concatenated keys. -/
theorem v16_apply (b : Fin 16) (k : Fin 2304) (h : Fin 4) (c : Fin 2) (d : Fin 128) :
    val_main_v16 x2 x4 (ix5 b k h c d)
      = if hk : (k : ℕ) < 2048 then x4 (ix5 b ⟨k, hk⟩ h c d) else x2 (ix5 b ⟨k - 2048, by omega⟩ h c d) := by
  pointwise [val_main_v16]

/-- The scores over the concatenated keys. -/
theorem v20_apply (b : Fin 16) (h : Fin 4) (c : Fin 2) (q : Fin 2048) (k : Fin 2304) :
    val_main_v20 x1 x2 x4 (ix5 b h c q k) = join (sx x1 x4 b h q c) (sc x1 x2 b h q c) k := by
  pointwise [val_main_v20, val_main_v18, val_main_v19, val_main_cst_2]
  unfold join
  by_cases hk : (k : ℕ) < 2048
  · rw [dif_pos hk]
    unfold sx score
    refine congrArg (· * Ideal.ofBits .f32 0x3DB504F3#32) (Finset.sum_congr rfl fun d _ => ?_)
    rw [v16_apply, dif_pos hk]
  · rw [dif_neg hk]
    unfold sc score
    refine congrArg (· * Ideal.ofBits .f32 0x3DB504F3#32) (Finset.sum_congr rfl fun d _ => ?_)
    rw [v16_apply, dif_neg hk]

/-- The maximum over the concatenated keys, as the reference takes it. -/
theorem v21_apply (b : Fin 16) (h : Fin 4) (c : Fin 2) (q : Fin 2048) : val_main_v21 x1 x2 x4 (ix4 b h c q)
    = Finset.fold max (val_main_cst_3 (F := Ideal) (Shape.Idx.first h_S_)) (fun k => val_main_v20 x1 x2 x4 (ix5 b h c q k)) Finset.univ := by
  pointwise [val_main_v21]

/-- The largest score. -/
theorem v23_apply (b : Fin 16) (h : Fin 4) (c : Fin 2) (q : Fin 2048) :
    val_main_v23 x1 x2 x4 (ix4 b h c q) = top (sc x1 x2 b h q c) (sx x1 x4 b h q c) := by
  have e' : (fun k : Fin 2304 => val_main_v20 x1 x2 x4 (ix5 b h c q k)) = join (sx x1 x4 b h q c) (sc x1 x2 b h q c) :=
    funext fun k => v20_apply x1 x2 x4 b h c q k
  have e3 : val_main_cst_3 (F := Ideal) (Shape.Idx.first h_S_) = Ideal.ofBits .f32 0xFF800000#32 := rfl
  have e2 : val_main_v22 (F := Ideal) (ix4 b h c q) = Ideal.ofBits .f32 0xFF800000#32 := rfl
  rw [val_main_v23_apply, v21_apply, e', e3, fold_join, e2]
  exact max_top _ _

/-- The exponentials. -/
theorem v27_apply (b : Fin 16) (h : Fin 4) (c : Fin 2) (q : Fin 2048) (k : Fin 2304) :
    val_main_v27 x1 x2 x4 (ix5 b h c q k)
      = Ideal.exp (join (sx x1 x4 b h q c) (sc x1 x2 b h q c) k - top (sc x1 x2 b h q c) (sx x1 x4 b h q c)) := by
  rw [← v23_apply, ← v20_apply]
  pointwise [val_main_v27, val_main_v26, val_main_v25, val_main_v24]

/-- The exponentials' sum. -/
theorem v28_apply (b : Fin 16) (h : Fin 4) (c : Fin 2) (q : Fin 2048) :
    val_main_v28 x1 x2 x4 (ix4 b h c q) = total (sc x1 x2 b h q c) (sx x1 x4 b h q c) := by
  have e : val_main_v28 x1 x2 x4 (ix4 b h c q) = ∑ k : Fin 2304, val_main_v27 x1 x2 x4 (ix5 b h c q k) := by
    pointwise [val_main_v28, val_main_cst_5]
  rw [e, sum_join]
  simp only [v27_apply, join_left, join_right]
  exact add_comm _ _

/-- The softmax. -/
theorem v31_apply (b : Fin 16) (h : Fin 4) (c : Fin 2) (q : Fin 2048) (k : Fin 2304) :
    val_main_v31 x1 x2 x4 (ix5 b h c q k)
      = prob (sc x1 x2 b h q c) (sx x1 x4 b h q c) (join (sx x1 x4 b h q c) (sc x1 x2 b h q c) k) := by
  unfold prob
  rw [← v28_apply, ← v27_apply]
  pointwise [val_main_v31, val_main_v30, val_main_v29]

/-- The first component's softmax. -/
theorem v33_apply (b : Fin 16) (h : Fin 4) (q : Fin 2048) (k : Fin 2304) :
    val_main_v33 x1 x2 x4 (ix4 b h q k) = val_main_v31 x1 x2 x4 (ix5 b h 0 q k) := by
  pointwise [val_main_v33, val_main_v32]

/-- The second component's softmax. -/
theorem v35_apply (b : Fin 16) (h : Fin 4) (q : Fin 2048) (k : Fin 2304) :
    val_main_v35 x1 x2 x4 (ix4 b h q k) = val_main_v31 x1 x2 x4 (ix5 b h 1 q k) := by
  pointwise [val_main_v35, val_main_v34]

/-- The factor λ at every place. -/
theorem v36_apply (i : S16x4x2048x2304.Idx) : val_main_v36 x0 i = val_main_v15 x0 ix0 := by
  pointwise [val_main_v36]

/-- The differential weights. -/
theorem v38_apply (b : Fin 16) (h : Fin 4) (q : Fin 2048) (k : Fin 2304) :
    val_main_v38 x0 x1 x2 x4 (ix4 b h q k)
      = weight (val_main_v15 x0 ix0) (sc x1 x2 b h q 0) (sc x1 x2 b h q 1) (sx x1 x4 b h q 0) (sx x1 x4 b h q 1)
          (join (sx x1 x4 b h q 0) (sc x1 x2 b h q 0) k) (join (sx x1 x4 b h q 1) (sc x1 x2 b h q 1) k) := by
  rw [val_main_v38_apply, val_main_v37_apply, v33_apply, v35_apply, v36_apply, v31_apply, v31_apply]
  rfl

/-- The weighted values. -/
theorem v39_apply (b : Fin 16) (h : Fin 4) (d : Fin 256) (q : Fin 2048) :
    val_main_v39 x0 x1 x2 x3 x4 x5 (ix4 b h d q) = mixed x1 x2 x3 x4 x5 (val_main_v15 x0 ix0) b h q d := by
  pointwise [val_main_v39, val_main_v17]
  simp only [v38_apply]
  unfold mixed mix
  rw [add_comm]
  congr 1
  · refine Finset.sum_congr rfl fun k _ => ?_
    rw [join_right, join_right, mul_comm]
  · refine Finset.sum_congr rfl fun k _ => ?_
    rw [join_left, join_left, mul_comm]

/-- The result at a query and a feature. -/
theorem v55_apply (b : Fin 16) (q : Fin 2048) (h : Fin 4) (d : Fin 256) :
    val_main_v55 x0 x1 x2 x3 x4 x5 x6 (ix4 b q h d)
      = normed (mixed x1 x2 x3 x4 x5 (val_main_v15 x0 ix0) b h q) (x6 (ix1 d)) d := by
  have h40 : ∀ d, val_main_v40 x0 x1 x2 x3 x4 x5 (ix4 b q h d) = mixed x1 x2 x3 x4 x5 (val_main_v15 x0 ix0) b h q d := by
    intro d
    rw [← v39_apply]
    pointwise [val_main_v40]
  unfold normed
  simp only [← h40]
  pointwise [val_main_v55, val_main_v54, val_main_v53, val_main_v52, val_main_v51, val_main_v50, val_main_v49, val_main_v48,
    val_main_v47, val_main_v46, val_main_v45, val_main_v44, val_main_v43, val_main_v42, val_main_v41, val_main_cst_6,
    val_main_cst_7, val_main_cst_8, val_main_cst_9]

/-- The result of the reference, heads and features merged. -/
theorem v56_apply (b : Fin 16) (q : Fin 2048) (h : Fin 4) (d : Fin 256) (e : Fin 1024) (he : (e : ℕ) = h * 256 + d) :
    val_main_v56 x0 x1 x2 x3 x4 x5 x6 (ix3 b q e)
      = normed (mixed x1 x2 x3 x4 x5 (val_main_v15 x0 ix0) b h q) (x6 (ix1 d)) d := by
  rw [← v55_apply]
  pointwise [val_main_v56]
  have hd := d.isLt
  have e1 : (⟨(e : ℕ) / 256, by omega⟩ : Fin 4) = h := Fin.ext (by show (e : ℕ) / 256 = h; omega)
  have e2 : (⟨(e : ℕ) % 256, Nat.mod_lt _ (by decide)⟩ : Fin 256) = d := Fin.ext (by show (e : ℕ) % 256 = d; omega)
  exact congrArg₂ (fun x y => val_main_v55 x0 x1 x2 x3 x4 x5 x6 (ix4 b q x y)) e1 e2

end Cert.ReferenceIdeal.Attn

end
-- ==== Proof.Final.lean ====
/- The kernel's result array after its run, as one function of the argument arrays. -/
module

public import proofs.«01_k».proof.Proof.Gen.KernelIdeal.Value
public import Idealize.ShloMosaic.Lib.Pipeline.ValueKit
public import proofs.«01_k».proof.Proof.Block
public import proofs.«01_k».proof.Proof.RefRead

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn

variable (m : (ℓ : Loc nD τ sig) → Buf (Elt Ideal) ℓ)

/-- Every window's block index at a grid point. -/
theorem idx : ∀ t : Fin cfg0.N, win0_0.index t = ![0] ∧ win0_1.index t = ![t.val / 32, t.val % 8, t.val / 8 % 4]
    ∧ win0_2.index t = ![t.val / 32, 0, t.val / 8 % 4] ∧ win0_3.index t = ![t.val / 32, 0, t.val / 8 % 4]
    ∧ win0_4.index t = ![t.val / 32, 0, t.val / 8 % 4] ∧ win0_5.index t = ![t.val / 32, 0, t.val / 8 % 4]
    ∧ win0_6.index t = ![0, 0] ∧ win0_7.index t = ![t.val / 32, t.val % 8, t.val / 8 % 4] :=
  (by decide +kernel : ∀ t : Fin grid0.N, _)

/-- A grid point's number. -/
theorem tlt (t : Fin cfg0.N) : t.val < 512 := lt_of_lt_of_eq t.isLt N_0

/-- The batch member a grid point works on. -/
def bOf (t : Fin cfg0.N) : Fin 16 := ⟨t.val / 32, by have := tlt t; omega⟩
/-- The head a grid point works on. -/
def hOf (t : Fin cfg0.N) : Fin 4 := ⟨t.val / 8 % 4, Nat.mod_lt _ (by decide)⟩
/-- The query at row `r` of a grid point's block. -/
def qOf (t : Fin cfg0.N) (r : Fin 256) : Fin 2048 := ⟨t.val % 8 * 256 + r, by omega⟩

/-- The scalar block is the reference's factor λ. -/
theorem lam_eq (c : Dev nD) (t : Fin cfg0.N) : iblk m c 0 t (ix1 0) = Cert.ReferenceIdeal.Read.val_main_v15 (F := Ideal) (m ((c : Thread nD τ).loc main_arg0)) ix0 := by
  blk_simp [iblk, idx t]
  entry_read
  pointwise [Cert.ReferenceIdeal.Read.val_main_v15, Cert.ReferenceIdeal.Read.val_main_v14, Cert.ReferenceIdeal.Read.val_main_v13,
    Cert.ReferenceIdeal.Read.val_main_v12, Cert.ReferenceIdeal.Read.val_main_v11, Cert.ReferenceIdeal.Read.val_main_v10,
    Cert.ReferenceIdeal.Read.val_main_v9, Cert.ReferenceIdeal.Read.val_main_v8, Cert.ReferenceIdeal.Read.val_main_v7,
    Cert.ReferenceIdeal.Read.val_main_v6, Cert.ReferenceIdeal.Read.val_main_v5, Cert.ReferenceIdeal.Read.val_main_v4,
    Cert.ReferenceIdeal.Read.val_main_v3, Cert.ReferenceIdeal.Read.val_main_v2, Cert.ReferenceIdeal.Read.val_main_v1,
    Cert.ReferenceIdeal.Read.val_main_v0, Cert.ReferenceIdeal.Read.val_main_cst, Cert.ReferenceIdeal.Read.val_main_cst_0,
    Cert.ReferenceIdeal.Read.val_main_cst_1]

/-- The queries with head, component and feature merged. -/
theorem V20 (c : Dev nD) (b : Fin 16) (q : Fin 2048) (e : Fin 1024) : V m c main_v20 (ix3 b q e)
    = m ((c : Thread nD τ).loc main_arg1) (ix5 b q ⟨e / 256, by omega⟩ ⟨e / 128 % 2, by omega⟩ ⟨e % 128, by omega⟩) := by
  entry_read
  pointwise

/-- The context keys with head, component and feature merged. -/
theorem V17 (c : Dev nD) (b : Fin 16) (q : Fin 256) (e : Fin 1024) : V m c main_v17 (ix3 b q e)
    = m ((c : Thread nD τ).loc main_arg2) (ix5 b q ⟨e / 256, by omega⟩ ⟨e / 128 % 2, by omega⟩ ⟨e % 128, by omega⟩) := by
  entry_read
  pointwise

/-- The context values with head and feature merged. -/
theorem V18 (c : Dev nD) (b : Fin 16) (q : Fin 256) (e : Fin 1024) : V m c main_v18 (ix3 b q e)
    = m ((c : Thread nD τ).loc main_arg3) (ix4 b q ⟨e / 256, by omega⟩ ⟨e % 256, by omega⟩) := by
  entry_read
  pointwise

/-- The latent keys with head, component and feature merged. -/
theorem V22 (c : Dev nD) (b : Fin 16) (q : Fin 2048) (e : Fin 1024) : V m c main_v22 (ix3 b q e)
    = m ((c : Thread nD τ).loc main_arg4) (ix5 b q ⟨e / 256, by omega⟩ ⟨e / 128 % 2, by omega⟩ ⟨e % 128, by omega⟩) := by
  entry_read
  pointwise

/-- The latent values with head and feature merged. -/
theorem V23 (c : Dev nD) (b : Fin 16) (q : Fin 2048) (e : Fin 1024) : V m c main_v23 (ix3 b q e)
    = m ((c : Thread nD τ).loc main_arg5) (ix4 b q ⟨e / 256, by omega⟩ ⟨e % 256, by omega⟩) := by
  entry_read
  pointwise

/-- The norm's weights as a row. -/
theorem V25 (c : Dev nD) (d : Fin 256) : V m c main_v25 (ix2 0 d)
    = m ((c : Thread nD τ).loc main_arg6) (ix1 d) := by
  entry_read
  pointwise

/-- The block of queries. -/
theorem I1 (c : Dev nD) (t : Fin cfg0.N) (r e : Fin 256) :
    iblk m c 1 t (ix3 0 r e) = V m c main_v20 (ix3 (bOf t) (qOf t r) ⟨t.val / 8 % 4 * 256 + e, by omega⟩) := by
  blk_ext [iblk, idx t, bOf, qOf]

/-- The block of context keys. -/
theorem I2 (c : Dev nD) (t : Fin cfg0.N) (r e : Fin 256) :
    iblk m c 2 t (ix3 0 r e) = V m c main_v17 (ix3 (bOf t) r ⟨t.val / 8 % 4 * 256 + e, by omega⟩) := by
  blk_ext [iblk, idx t, bOf, qOf]

/-- The block of context values. -/
theorem I3 (c : Dev nD) (t : Fin cfg0.N) (r e : Fin 256) :
    iblk m c 3 t (ix3 0 r e) = V m c main_v18 (ix3 (bOf t) r ⟨t.val / 8 % 4 * 256 + e, by omega⟩) := by
  blk_ext [iblk, idx t, bOf, qOf]

/-- The block of latent keys. -/
theorem I4 (c : Dev nD) (t : Fin cfg0.N) (r : Fin 2048) (e : Fin 256) :
    iblk m c 4 t (ix3 0 r e) = V m c main_v22 (ix3 (bOf t) r ⟨t.val / 8 % 4 * 256 + e, by omega⟩) := by
  blk_ext [iblk, idx t, bOf, qOf]

/-- The block of latent values. -/
theorem I5 (c : Dev nD) (t : Fin cfg0.N) (r : Fin 2048) (e : Fin 256) :
    iblk m c 5 t (ix3 0 r e) = V m c main_v23 (ix3 (bOf t) r ⟨t.val / 8 % 4 * 256 + e, by omega⟩) := by
  blk_ext [iblk, idx t, bOf, qOf]

/-- The block of the norm's weights. -/
theorem I6 (c : Dev nD) (t : Fin cfg0.N) (e : Fin 256) :
    iblk m c 6 t (ix2 0 e) = V m c main_v25 (ix2 0 e) := by
  blk_ext [iblk, idx t, bOf, qOf]

/-- Indices of rank five with equal coordinates are equal. -/
theorem ix5_congr {a b c d e : ℕ} {i i' : Fin a} {j j' : Fin b} {k k' : Fin c} {l l' : Fin d} {n n' : Fin e}
    (h1 : i = i') (h2 : j = j') (h3 : k = k') (h4 : l = l') (h5 : n = n') : ix5 i j k l n = ix5 i' j' k' l' n' := by
  subst h1 h2 h3 h4 h5; rfl

/-- Indices of rank four with equal coordinates are equal. -/
theorem ix4_congr {a b c d : ℕ} {i i' : Fin a} {j j' : Fin b} {k k' : Fin c} {l l' : Fin d}
    (h1 : i = i') (h2 : j = j') (h3 : k = k') (h4 : l = l') : ix4 i j k l = ix4 i' j' k' l' := by
  subst h1 h2 h3 h4; rfl

/-- One component of a block, in the argument array. -/
theorem q0 (c : Dev nD) (t : Fin cfg0.N) (r : Fin 256) (d : Fin 128) :
    iblk m c 1 t (ix3 0 r ⟨d, by omega⟩) = m ((c : Thread nD τ).loc main_arg1) (ix5 (bOf t) (qOf t r) (hOf t) 0 d) := by
  rw [I1, V20]
  congr 1
  refine ix5_congr rfl rfl ?_ ?_ ?_ <;> apply Fin.ext <;> simp only [hOf] <;> omega

/-- One component of a block, in the argument array. -/
theorem kc0 (c : Dev nD) (t : Fin cfg0.N) (r : Fin 256) (d : Fin 128) :
    iblk m c 2 t (ix3 0 r ⟨d, by omega⟩) = m ((c : Thread nD τ).loc main_arg2) (ix5 (bOf t) r (hOf t) 0 d) := by
  rw [I2, V17]
  congr 1
  refine ix5_congr rfl rfl ?_ ?_ ?_ <;> apply Fin.ext <;> simp only [hOf] <;> omega

/-- One component of a block, in the argument array. -/
theorem kx0 (c : Dev nD) (t : Fin cfg0.N) (r : Fin 2048) (d : Fin 128) :
    iblk m c 4 t (ix3 0 r ⟨d, by omega⟩) = m ((c : Thread nD τ).loc main_arg4) (ix5 (bOf t) r (hOf t) 0 d) := by
  rw [I4, V22]
  congr 1
  refine ix5_congr rfl rfl ?_ ?_ ?_ <;> apply Fin.ext <;> simp only [hOf] <;> omega

/-- One component of a block, in the argument array. -/
theorem q1 (c : Dev nD) (t : Fin cfg0.N) (r : Fin 256) (d : Fin 128) :
    iblk m c 1 t (ix3 0 r ⟨128 + d, by omega⟩) = m ((c : Thread nD τ).loc main_arg1) (ix5 (bOf t) (qOf t r) (hOf t) 1 d) := by
  rw [I1, V20]
  congr 1
  refine ix5_congr rfl rfl ?_ ?_ ?_ <;> apply Fin.ext <;> simp only [hOf] <;> omega

/-- One component of a block, in the argument array. -/
theorem kc1 (c : Dev nD) (t : Fin cfg0.N) (r : Fin 256) (d : Fin 128) :
    iblk m c 2 t (ix3 0 r ⟨128 + d, by omega⟩) = m ((c : Thread nD τ).loc main_arg2) (ix5 (bOf t) r (hOf t) 1 d) := by
  rw [I2, V17]
  congr 1
  refine ix5_congr rfl rfl ?_ ?_ ?_ <;> apply Fin.ext <;> simp only [hOf] <;> omega

/-- One component of a block, in the argument array. -/
theorem kx1 (c : Dev nD) (t : Fin cfg0.N) (r : Fin 2048) (d : Fin 128) :
    iblk m c 4 t (ix3 0 r ⟨128 + d, by omega⟩) = m ((c : Thread nD τ).loc main_arg4) (ix5 (bOf t) r (hOf t) 1 d) := by
  rw [I4, V22]
  congr 1
  refine ix5_congr rfl rfl ?_ ?_ ?_ <;> apply Fin.ext <;> simp only [hOf] <;> omega

/-- A block of values, in the argument array. -/
theorem vc (c : Dev nD) (t : Fin cfg0.N) (r : Fin 256) (d : Fin 256) :
    iblk m c 3 t (ix3 0 r d) = m ((c : Thread nD τ).loc main_arg3) (ix4 (bOf t) r (hOf t) d) := by
  rw [I3, V18]
  congr 1
  refine ix4_congr rfl rfl ?_ ?_ <;> apply Fin.ext <;> simp only [hOf] <;> omega

/-- A block of values, in the argument array. -/
theorem vx (c : Dev nD) (t : Fin cfg0.N) (r : Fin 2048) (d : Fin 256) :
    iblk m c 5 t (ix3 0 r d) = m ((c : Thread nD τ).loc main_arg5) (ix4 (bOf t) r (hOf t) d) := by
  rw [I5, V23]
  congr 1
  refine ix4_congr rfl rfl ?_ ?_ <;> apply Fin.ext <;> simp only [hOf] <;> omega

/-- Where an element of a point's block of the result lies in the result. -/
theorem out_emb (t : Fin cfg0.N) (r d : Fin 256) : ((View.whole main_v26).slice (win0_7.rect t)).emb (ix3 0 r d)
    = ix3 (bOf t) (qOf t r) ⟨t.val / 8 % 4 * 256 + d, by omega⟩ := by
  blk_ext [idx t, bOf, qOf]

/-- The only element of a block of one scalar. -/
theorem ld_one (X : Vec Ideal S1 .f32) (i) : View.ld X (Rect.unit (s := S1) ![0] ![1] inb_S1_S1_0) i = X (ix1 0) := by
  refine congrArg X (funext fun a => ?_)
  match a with
  | ⟨0, _⟩ => exact Subsingleton.elim (α := Fin 1) _ _

/-- The stored block at a query and a feature, once each block is read from its array. -/
theorem stored_of (v1 v4 : Vec Ideal S1x256x256 .bf16) (v12 : Vec Ideal S1x2048x256 .bf16) {lam lam' : Elt Ideal .f32} (hl : lam = lam')
    (vc : Vec Ideal S1x256x256 .f32) (vx : Vec Ideal S1x2048x256 .f32) (sub : Vec Ideal S1x256 .f32)
    (x1 : FVec Ideal S16x2048x4x2x128 .f32) (x2 : FVec Ideal S16x256x4x2x128 .f32) (x3 : FVec Ideal S16x256x4x256 .f32)
    (x4 : FVec Ideal S16x2048x4x2x128 .f32) (x5 : FVec Ideal S16x2048x4x256 .f32) (x6 : FVec Ideal S256 .f32)
    (b : Fin 16) (h : Fin 4) (q : Fin 2048) (r d : Fin 256)
    (hq0 : ∀ d : Fin 128, v1 (ix3 0 r ⟨d, by omega⟩) = x1 (ix5 b q h 0 d))
    (hq1 : ∀ d : Fin 128, v1 (ix3 0 r ⟨128 + d, by omega⟩) = x1 (ix5 b q h 1 d))
    (hc0 : ∀ (k : Fin 256) (d : Fin 128), v4 (ix3 0 k ⟨d, by omega⟩) = x2 (ix5 b k h 0 d))
    (hc1 : ∀ (k : Fin 256) (d : Fin 128), v4 (ix3 0 k ⟨128 + d, by omega⟩) = x2 (ix5 b k h 1 d))
    (hx0 : ∀ (k : Fin 2048) (d : Fin 128), v12 (ix3 0 k ⟨d, by omega⟩) = x4 (ix5 b k h 0 d))
    (hx1 : ∀ (k : Fin 2048) (d : Fin 128), v12 (ix3 0 k ⟨128 + d, by omega⟩) = x4 (ix5 b k h 1 d))
    (hvc : ∀ (k d : Fin 256), vc (ix3 0 k d) = x3 (ix4 b k h d))
    (hvx : ∀ (k : Fin 2048) (d : Fin 256), vx (ix3 0 k d) = x5 (ix4 b k h d))
    (hs : sub (ix2 0 d) = x6 (ix1 d)) :
    k0_pay1 (k0_pay19 lam (k0_pay10 v1 v4 v12) (k0_pay12 v1) v4 v12 vc) (k0_pay20 lam (k0_pay11 v1 v4 v12) (k0_pay12 v1) v4 v12) vx sub (ix3 0 r d)
      = normed (Cert.ReferenceIdeal.Attn.mixed x1 x2 x3 x4 x5 lam' b h q) (x6 (ix1 d)) d := by
  subst hl
  rw [stored v1 v4 v12 lam vc vx sub r d]
  simp only [hq0, hq1, hc0, hc1, hx0, hx1, hvc, hvx, hs]
  rfl

/-- The kernel's result array after its run is the reference's value of the same arguments. -/
theorem final (c : Dev nD) : (dats m 0 c).arrAt 7 (cfgs 0).N
    = Cert.ReferenceIdeal.Read.val_main_v56 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 7 _ (by decide +kernel) fun t _ y => ?_
  blk_simp
  rw [after0_7]; unfold outsAt0; frame_out
  obtain ⟨a, r, d, rfl⟩ : ∃ (a : Fin 1) (r d : Fin 256), y = ix3 a r d := ⟨y 0, y 1, y 2, eq_ix3 y⟩
  obtain rfl : a = 0 := Subsingleton.elim _ _
  rw [out_emb, Cert.ReferenceIdeal.Attn.v56_apply _ _ _ _ _ _ _ (bOf t) (qOf t r) (hOf t) d _ rfl]
  exact stored_of _ _ _ ((ld_one _ _).trans (lam_eq m c t)) _ _ _ _ _ _ _ _ _ (bOf t) (hOf t) (qOf t r) r d
    (q0 m c t r) (q1 m c t r) (kc0 m c t) (kc1 m c t) (kx0 m c t) (kx1 m c t) (vc m c t) (vx m c t) ((I6 m c t d).trans (V25 m c d))

end Cert.KernelIdeal.Attn

end
-- ==== Proof.ExpertRunIdeal.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of these extents recurses once per coordinate of the long axes
set_option maxRecDepth 16384

noncomputable section

namespace Cert.Kernel2Ideal.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F]

local notation "𝕄" => MT nD τ sig Unit (Elt F) ℕ (UR sig nD τ) ℕ

/-- The table of experts, one word per block of rows, as the body is handed it: a whole buffer. -/
abbrev words : Memref sig .tc .smem S1216 .i32 := Memref.whole main_arg2
abbrev words_whole : words.IsWhole := Memref.isWhole_whole _

/-- The table's contents on core `c`. -/
abbrev WordsBuf (c : Dev nD) {S : Shape} {e : EltTy} (M : Memref sig .tc .smem S e) : Type := Buf (Elt F) (M.view.loc (c : Thread nD τ))

/-- The table held read-only on core `c` (the pipeline keeps the other half). -/
abbrev wordsHeld (c : Dev nD) {S : Shape} {e : EltTy} (M : Memref sig .tc .smem S e) (f : WordsBuf (F := F) c M) : sProp 𝕄 :=
  M.view.loc (c : Thread nD τ) ↦{fullShare.right} f

/-- The expert of the block at `i`, and the expert of the block before it, as the body reads them. -/
abbrev wordHere (c : Dev nD) (i : grid0.Coords) (xt : WordsBuf (F := F) c words) : BitVec 32 :=
  words.view.readAt (Elt F) (Rect.unit (s := S1216) (k0_off1 i) S1.size (k0_off1_inb i)).toLoadRect xt (Shape.Idx.first (numel1_S1.symm ▸ Nat.one_pos))
abbrev wordBefore (c : Dev nD) (i : grid0.Coords) (xt : WordsBuf (F := F) c words) : BitVec 32 :=
  words.view.readAt (Elt F) (Rect.unit (s := S1216) (k0_off2 i) S1.size (k0_off2_inb i)).toLoadRect xt (Shape.Idx.first (numel1_S1.symm ▸ Nat.one_pos))

/-- The body's branch: the weights are packed anew at the first block and wherever the expert differs from the one before. -/
abbrev Reload (i : grid0.Coords) (v2 v6 : BitVec 32) : Prop :=
  (Scalar.cmpi .ne (Scalar.extui (Scalar.ori (Scalar.cmpi .eq (BitVec.ofNat 32 (i 0).val) 0#32) (Scalar.cmpi .ne v2 v6))) 0#32) = 1#1

set_option maxHeartbeats 1000000 in
/-- The body where the weights are packed anew: on the operands' buffers at their contents it runs to the continuation with the
    operands as they were, and with the stores it made — into the result's block (`L6`) and the two packed weights (`L7`, `L8`) — found by
    running it. -/
noncomputable def runReload (c : Dev nD) (i : grid0.Coords) (arg2 : Memref sig .tc .vmem S256x2048 .bf16) (harg2 : arg2.IsWhole) (arg3 : Memref sig .tc .vmem S1x2048x512 .f32) (harg3 : arg3.IsWhole)
    (arg4 : Memref sig .tc .vmem S1x2048x512 .f32) (harg4 : arg4.IsWhole) (arg5 : Memref sig .tc .vmem S1x512x2048 .f32) (harg5 : arg5.IsWhole)
    (arg6 : Memref sig .tc .vmem S256x2048 .f32) (harg6 : arg6.IsWhole) (arg7 : Memref sig .tc .vmem S2048x1024 .bf16) (harg7 : arg7.IsWhole)
    (arg8 : Memref sig .tc .vmem S512x2048 .bf16) (harg8 : arg8.IsWhole)
    (x0 : Vec F S256x2048 .bf16) (x1 : Vec F S1x2048x512 .f32) (x2 : Vec F S1x2048x512 .f32) (x3 : Vec F S1x512x2048 .f32) (xt : WordsBuf (F := F) c words)
    (hc : Reload i (wordHere c i xt) (wordBefore c i xt)) :
    Σ' (L6 : List (View.Piece (Elt F) S256x2048 .f32)), Σ' (L7 : List (View.Piece (Elt F) S2048x1024 .bf16)), { L8 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ wordsHeld c words xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ wordsHeld c words xt) -∗ K ⟨⟩))
          ⊢ wp frame (wpE (defs₀ (F := F)) Variants.none c none) E (cc0_expert_blocks i words words_whole arg2 harg2 arg3 harg3 arg4 harg4 arg5 harg5 arg6 harg6 arg7 harg7 arg8 harg8) K } := by
  refine ⟨?_, ?_, ?_, fun E K => ?run⟩
  case run =>
    simp only [cc0_expert_blocks_eq_skeleton]; unfold cc0_expert_blocks_skel
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, HT, Hk⟩
    obtain rfl := harg2.eq_unread hf0; obtain rfl := harg3.eq_unread hf1; obtain rfl := harg4.eq_unread hf2; obtain rfl := harg5.eq_unread hf3
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    isplitl [H8]; · iexists _; iexact H8
    iexact HT

set_option maxHeartbeats 1000000 in
/-- The body where the expert is the one of the block before: the packed weights are read as they are and stay; `L6` is what it stores
    into the result's block. -/
noncomputable def runKeep (c : Dev nD) (i : grid0.Coords) (arg2 : Memref sig .tc .vmem S256x2048 .bf16) (harg2 : arg2.IsWhole) (arg3 : Memref sig .tc .vmem S1x2048x512 .f32) (harg3 : arg3.IsWhole)
    (arg4 : Memref sig .tc .vmem S1x2048x512 .f32) (harg4 : arg4.IsWhole) (arg5 : Memref sig .tc .vmem S1x512x2048 .f32) (harg5 : arg5.IsWhole)
    (arg6 : Memref sig .tc .vmem S256x2048 .f32) (harg6 : arg6.IsWhole) (arg7 : Memref sig .tc .vmem S2048x1024 .bf16) (harg7 : arg7.IsWhole)
    (arg8 : Memref sig .tc .vmem S512x2048 .bf16) (harg8 : arg8.IsWhole)
    (x0 : Vec F S256x2048 .bf16) (x1 : Vec F S1x2048x512 .f32) (x2 : Vec F S1x2048x512 .f32) (x3 : Vec F S1x512x2048 .f32) (xt : WordsBuf (F := F) c words)
    (s7 : Vec F S2048x1024 .bf16) (s8 : Vec F S512x2048 .bf16)
    (hc : ¬Reload i (wordHere c i xt) (wordBefore c i xt)) :
    { L6 : List (View.Piece (Elt F) S256x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s7 ∗ owns (c : Thread nD τ) arg8 fullShare s8 ∗ wordsHeld c words xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ owns (c : Thread nD τ) arg7 fullShare s7 ∗ owns (c : Thread nD τ) arg8 fullShare s8 ∗ wordsHeld c words xt) -∗ K ⟨⟩))
          ⊢ wp frame (wpE (defs₀ (F := F)) Variants.none c none) E (cc0_expert_blocks i words words_whole arg2 harg2 arg3 harg3 arg4 harg4 arg5 harg5 arg6 harg6 arg7 harg7 arg8 harg8) K } := by
  refine ⟨?_, fun E K => ?run⟩
  case run =>
    simp only [cc0_expert_blocks_eq_skeleton]; unfold cc0_expert_blocks_skel
    unfold owns
    iintro ⟨⟨%f0, %hf0, H0⟩, ⟨%f1, %hf1, H1⟩, ⟨%f2, %hf2, H2⟩, ⟨%f3, %hf3, H3⟩, ⟨%d6, %f6, -, H6⟩, ⟨%f7, %hf7, H7⟩, ⟨%f8, %hf8, H8⟩, HT, Hk⟩
    obtain rfl := harg2.eq_unread hf0; obtain rfl := harg3.eq_unread hf1; obtain rfl := harg4.eq_unread hf2; obtain rfl := harg5.eq_unread hf3
    obtain rfl := harg7.eq_unread hf7; obtain rfl := harg8.eq_unread hf8
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]
    · iexists _; isplitr; · ipureintro; exact harg7.read_unread _
      iexact H7
    isplitl [H8]
    · iexists _; isplitr; · ipureintro; exact harg8.read_unread _
      iexact H8
    iexact HT

end Cert.Kernel2Ideal.Expert

end
-- ==== Proof.ExpertFrameIdeal.lean ====
module

public import proofs.«01_k».proof.Proof.ExpertRunIdeal
public import proofs.«01_k».proof.Pre_names_experts
public import Idealize.ShloMosaic.Lib.Pipeline.ValueKit
public import Idealize.ShloMosaic.Lib.Claim

@[expose] public section

set_option maxRecDepth 16384

noncomputable section

namespace Cert.Kernel2Ideal.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-! ## What the two cases of the body leave -/

/-- The two input projections side by side, as the body packs them: the gate's in columns 0 to 511, the other's in columns 512 to 1023. -/
def packed (x1 x2 : Vec F S1x2048x512 .f32) : Vec F S2048x1024 .bf16 :=
  View.canon [⟨Rect.unit (s := S2048x1024) ![0, 512] S2048x512.size inb_S2048x1024_S2048x512_0_512, k0_pay2 x2⟩,
    ⟨Rect.unit (s := S2048x1024) ![0, 0] S2048x512.size inb_S2048x1024_S2048x512_0_0, k0_pay1 x1⟩]

/-- What the body leaves in the result's block: the block of rows through the expert's three weights. -/
def blockOut (x0 : Vec F S256x2048 .bf16) (x1 x2 : Vec F S1x2048x512 .f32) (x3 : Vec F S1x512x2048 .f32) : Vec F S256x2048 .f32 :=
  k0_pay4 x0 (packed x1 x2) (k0_pay3 x3)

section body
variable (c : Dev nD) (i : grid0.Coords) (arg2 : Memref sig .tc .vmem S256x2048 .bf16) (harg2 : arg2.IsWhole) (arg3 : Memref sig .tc .vmem S1x2048x512 .f32) (harg3 : arg3.IsWhole)
    (arg4 : Memref sig .tc .vmem S1x2048x512 .f32) (harg4 : arg4.IsWhole) (arg5 : Memref sig .tc .vmem S1x512x2048 .f32) (harg5 : arg5.IsWhole)
    (arg6 : Memref sig .tc .vmem S256x2048 .f32) (harg6 : arg6.IsWhole) (arg7 : Memref sig .tc .vmem S2048x1024 .bf16) (harg7 : arg7.IsWhole)
    (arg8 : Memref sig .tc .vmem S512x2048 .bf16) (harg8 : arg8.IsWhole)
  (x0 : Vec F S256x2048 .bf16) (x1 : Vec F S1x2048x512 .f32) (x2 : Vec F S1x2048x512 .f32) (x3 : Vec F S1x512x2048 .f32) (xt : WordsBuf (F := F) c words)

/-- Where the weights are packed anew, the buffer of the input projections reads as the packed pair afterwards. -/
theorem reload_packed (hc : Reload i (wordHere c i xt) (wordBefore c i xt)) {κ : Kind} {sp : Space} (v : View sig κ sp S2048x1024 .bf16) (f : v.ty.Contents (Elt F)) :
    v.read (Elt F) (v.writes (Elt F) f (runReload c i arg2 harg2 arg3 harg3 arg4 harg4 arg5 harg5 arg6 harg6 arg7 harg7 arg8 harg8 x0 x1 x2 x3 xt hc).2.1) = packed x1 x2 := by
  rw [View.read_writes_eq_canon v f _ (fun y => View.cover_of_tiledL (s := S2048x1024) _ ![2048, 512] (by sl_kernel_rfl) y)]
  frame_out [runReload, packed]

/-- and the buffer of the output projection as its rounded weights. -/
theorem reload_out (hc : Reload i (wordHere c i xt) (wordBefore c i xt)) {κ : Kind} {sp : Space} (v : View sig κ sp S512x2048 .bf16) (f : v.ty.Contents (Elt F)) :
    v.read (Elt F) (v.writes (Elt F) f (runReload c i arg2 harg2 arg3 harg3 arg4 harg4 arg5 harg5 arg6 harg6 arg7 harg7 arg8 harg8 x0 x1 x2 x3 xt hc).2.2.1) = k0_pay3 x3 := by
  rw [View.read_writes_eq_canon v f _ (fun y => View.cover_of_tiledL _ S512x2048.size (by sl_kernel_rfl) y)]
  frame_out [runReload]

/-- Where the weights are packed anew the result's block is the rows through those weights. -/
theorem reload_block (hc : Reload i (wordHere c i xt) (wordBefore c i xt)) {κ : Kind} {sp : Space} (v : View sig κ sp S256x2048 .f32) (f : v.ty.Contents (Elt F)) :
    v.read (Elt F) (v.writes (Elt F) f (runReload c i arg2 harg2 arg3 harg3 arg4 harg4 arg5 harg5 arg6 harg6 arg7 harg7 arg8 harg8 x0 x1 x2 x3 xt hc).1) = blockOut x0 x1 x2 x3 := by
  rw [View.read_writes_eq_canon v f _ (fun y => View.cover_of_tiledL _ S256x2048.size (by sl_kernel_rfl) y)]
  frame_out [runReload, blockOut, packed]
  refine congrArg (fun w => k0_pay4 x0 w (k0_pay3 x3)) ?_
  rw [View.readCov_eq_canon']
  exact View.ld_unit_lit (S := S2048x1024) inb_S2048x1024_S2048x1024_0_0 _ (by decide)

/-- Where they are kept the result's block is the rows through the weights found packed. -/
theorem keep_block (s7 : Vec F S2048x1024 .bf16) (s8 : Vec F S512x2048 .bf16) (hc : ¬Reload i (wordHere c i xt) (wordBefore c i xt)) {κ : Kind} {sp : Space} (v : View sig κ sp S256x2048 .f32)
    (f : v.ty.Contents (Elt F)) :
    v.read (Elt F) (v.writes (Elt F) f (runKeep c i arg2 harg2 arg3 harg3 arg4 harg4 arg5 harg5 arg6 harg6 arg7 harg7 arg8 harg8 x0 x1 x2 x3 xt s7 s8 hc).1) = k0_pay4 x0 s7 s8 := by
  rw [View.read_writes_eq_canon v f _ (fun y => View.cover_of_tiledL _ S256x2048.size (by sl_kernel_rfl) y)]
  frame_out [runKeep]

end body

/-! ## @main up to the call -/

variable (m : (ℓ : Loc nD τ sig) → Buf (Elt F) ℓ) (ρ : Dev nD → PrngReg)

/-- Core `c`'s buffers when the call is entered: after the host operations before it. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

set_option maxHeartbeats 800000 in
/-- @main is the host operations and then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that is the destination of no host operation is as launched when the call is entered. -/
theorem kept (c : Dev nD) (b : Ref sig .tc) (hb : b ∉ [main_v0, main_c, main_v1, main_v2, main_c_0, main_v3, main_v4, main_v5, main_v6, main_v7]) :
    V m c b = m ((c : Thread nD τ).loc b) :=
  StableHlo.after_of_forall_not_mem (b := Proc.devRef .tc b) _ _ (List.forall_iff_forall_mem.mp (by
    simp only [List.mem_cons, List.not_mem_nil, or_false, not_or] at hb
    obtain ⟨h0, h1, h2, h3, h4, h5, h6, h7, h8, h9⟩ := hb
    simp only [hostOps0, List.Forall, StableHlo.nullary_writes, StableHlo.unary_writes, StableHlo.binary_writes, StableHlo.ternary_writes, Finset.mem_singleton]
    refine ⟨?_, ?_, ?_, ?_, ?_, ?_, ?_, ?_, ?_, ?_⟩ <;> (apply StableHlo.devRef_ne_of_ne; assumption)))

/-- The host operations leave `main_arg0` as launched. -/
theorem V_main_arg0 (c : Dev nD) : V m c main_arg0 = m ((c : Thread nD τ).loc main_arg0) :=
  kept m c main_arg0 (by decide)

/-- The host operations leave `main_arg1` as launched. -/
theorem V_main_arg1 (c : Dev nD) : V m c main_arg1 = m ((c : Thread nD τ).loc main_arg1) :=
  kept m c main_arg1 (by decide)

/-- The host operations leave `main_arg2` as launched. -/
theorem V_main_arg2 (c : Dev nD) : V m c main_arg2 = m ((c : Thread nD τ).loc main_arg2) :=
  kept m c main_arg2 (by decide)

/-- The host operations leave `main_arg3` as launched. -/
theorem V_main_arg3 (c : Dev nD) : V m c main_arg3 = m ((c : Thread nD τ).loc main_arg3) :=
  kept m c main_arg3 (by decide)

/-- The host operations leave `main_arg4` as launched. -/
theorem V_main_arg4 (c : Dev nD) : V m c main_arg4 = m ((c : Thread nD τ).loc main_arg4) :=
  kept m c main_arg4 (by decide)

/-- The host operations leave `main_arg5` as launched. -/
theorem V_main_arg5 (c : Dev nD) : V m c main_arg5 = m ((c : Thread nD τ).loc main_arg5) :=
  kept m c main_arg5 (by decide)

/-! ## The table of experts -/

/-- The table's contents when the call is entered. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- Every word of the table names an expert whose weights lie inside the arrays of weights. -/
abbrev Ok : Prop := ok0 (F := F) (tbl m)

/-- The table as admissible contents, and the pipeline at it. -/
abbrev adm (hO : Ok m) : (pcfg0 (F := F)).Adm := ⟨tbl m, hO⟩
abbrev cfgM (hO : Ok m) : Pipeline.Cfg sig Λ₀ := cfg0 (adm m hO)

/-- The half of the table the body is handed. -/
theorem tables_eq (c : Dev nD) : (Pipeline.ΦT pre0 (tbl m) c : sProp 𝕄) = iprop(wordsHeld c words (tbl m 0)) := by
  unfold Pipeline.ΦT Pipeline.prefHeld
  rw [show (Finset.univ : Finset (Fin 1)) = {(0 : Fin 1)} from by decide, bigSep_singleton]
  rfl

/-- The word the weights' index maps read at point `t`. -/
def wordAt (t : Fin grid0.N) : BitVec 32 := (tbl m).at 0 (Rect.unit (s := S1216) (k0_off1 (grid0.coords t)) S1.size (k0_off1_inb (grid0.coords t))) numel1_S1

/-- The body reads that word as the expert of its block, -/
theorem wordHere_eq (c : Dev nD) (t : Fin grid0.N) : wordHere c (grid0.coords t) (tbl m 0) = wordAt m t := rfl

/-- and as the expert of the block before, the word of the point before. -/
theorem wordBefore_eq (c : Dev nD) (t t' : Fin grid0.N) (h : t.val = t'.val + 1) : wordBefore c (grid0.coords t) (tbl m 0) = wordAt m t' := by
  have e1 : ∀ t : Fin grid0.N, k0_off1 (grid0.coords t) = ![t.val] := by decide +kernel
  have e2 : ∀ t : Fin grid0.N, k0_off2 (grid0.coords t) = ![t.val - 1] := by decide +kernel
  have e : k0_off2 (grid0.coords t) = k0_off1 (grid0.coords t') := by rw [e1, e2, h]; rfl
  rw [← wordHere_eq m c t']
  unfold wordBefore wordHere
  congr 2
  all_goals simp only [e]

/-- At the first point the weights are packed. -/
theorem reload_first (t : Fin grid0.N) (h : t.val = 0) (v2 v6 : BitVec 32) : Reload (grid0.coords t) v2 v6 := by
  have e : (grid0.coords t 0).val = t.val := (by decide +kernel : ∀ t : Fin grid0.N, (grid0.coords t 0).val = t.val) t
  unfold Reload
  rw [e, h]
  have : ∀ b : BitVec 1, (Scalar.cmpi .ne (Scalar.extui (Scalar.ori (Scalar.cmpi .eq (BitVec.ofNat 32 0) 0#32) b)) 0#32) = 1#1 := by decide
  exact this _

/-- Where the weights are not packed anew the two words agree. -/
theorem keep_words (i : grid0.Coords) (v2 v6 : BitVec 32) (h : ¬Reload i v2 v6) : v2 = v6 := by
  by_contra hne
  refine h ?_
  unfold Reload
  have e : Scalar.cmpi .ne v2 v6 = 1#1 := by simp only [Scalar.cmpi, IntOp.cmpi, bne_iff_ne.mpr hne]; rfl
  rw [e]
  have : ∀ b : BitVec 1, (Scalar.cmpi .ne (Scalar.extui (Scalar.ori b 1#1)) 0#32) = 1#1 := by decide
  exact this _

/-! ## The pipeline's data -/

/-- Window `w`'s block at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The packed input projections, the rounded output projection and the result's block of point `t`'s expert and rows: after the point
    the two buffers of packed weights and the result's block hold them, whether the weights were packed there or at an earlier point. -/
def packedAt (hO : Ok m) (c : Dev nD) (t : Fin (cfgM m hO).N) : Vec F S2048x1024 .bf16 := packed (iblk m hO c 1 t) (iblk m hO c 2 t)
def projAt (hO : Ok m) (c : Dev nD) (t : Fin (cfgM m hO).N) : Vec F S512x2048 .bf16 := k0_pay3 (F := F) (iblk m hO c 3 t)
def outAt (hO : Ok m) (c : Dev nD) (t : Fin (cfgM m hO).N) : Vec F S256x2048 .f32 := blockOut (iblk m hO c 0 t) (iblk m hO c 1 t) (iblk m hO c 2 t) (iblk m hO c 3 t)

/-- The buffers of packed weights, and each window's current buffer at point `t`. -/
abbrev scr7 : Memref sig .tc .vmem S2048x1024 .bf16 := Memref.whole cc0_scratch0
abbrev scr8 : Memref sig .tc .vmem S512x2048 .bf16 := Memref.whole cc0_scratch1
abbrev buf0 (hO : Ok m) (t : Fin (cfgM m hO).N) : Memref sig .tc .vmem S256x2048 .bf16 := spec0_0.stage ((cfgM m hO).slots t 0)
abbrev buf1 (hO : Ok m) (t : Fin (cfgM m hO).N) : Memref sig .tc .vmem S1x2048x512 .f32 := spec0_1.stage ((cfgM m hO).slots t 1)
abbrev buf2 (hO : Ok m) (t : Fin (cfgM m hO).N) : Memref sig .tc .vmem S1x2048x512 .f32 := spec0_2.stage ((cfgM m hO).slots t 2)
abbrev buf3 (hO : Ok m) (t : Fin (cfgM m hO).N) : Memref sig .tc .vmem S1x512x2048 .f32 := spec0_3.stage ((cfgM m hO).slots t 3)
abbrev buf4 (hO : Ok m) (t : Fin (cfgM m hO).N) : Memref sig .tc .vmem S256x2048 .f32 := spec0_4.stage ((cfgM m hO).slots t 4)

/-- What is held between points: before the first the packed weights are anything, after point `n` they are that point's. -/
def held (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scr7 fullShare (packedAt m hO c ⟨n, hn⟩) ∗ owns (c : Thread nD τ) scr8 fullShare (projAt m hO c ⟨n, hn⟩)) ∗ (∃ r, prngReg c r)) ∗ Pipeline.ΦT pre0 (tbl m) c)

theorem held_zero (hO : Ok m) (c : Dev nD) (n : ℕ) (h : n ≤ (cfgM m hO).N) (hz : n = 0) : held m hO c n h = iprop(Pipeline.ΦA spec0 c ∗ Pipeline.ΦT pre0 (tbl m) c) := by
  subst hz; rfl

theorem held_succ (hO : Ok m) (c : Dev nD) (t : Fin (cfgM m hO).N) (n : ℕ) (h : n ≤ (cfgM m hO).N) (hn : n = t.val + 1) :
    held m hO c n h = iprop(iprop(iprop(owns (c : Thread nD τ) scr7 fullShare (packedAt m hO c t) ∗ owns (c : Thread nD τ) scr8 fullShare (projAt m hO c t)) ∗ (∃ r, prngReg c r)) ∗ Pipeline.ΦT pre0 (tbl m) c) := by
  subst hn; rfl

/-- The data: each operand's buffer holds its block after the body, the result's holds `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := held m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem held_castSucc (hO : Ok m) (c : Dev nD) (t : Fin (cfgM m hO).N) :
    (dats m hO 0 c).Φ t.castSucc = held m hO c t.val (Nat.le_of_lt t.isLt) := by
  dsimp only [dats]; exact Pipeline.Dat.Φ_castSucc (held m hO c) t

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = outAt m hO c t := by dsimp only [dats]; try rfl

/-- A fetch of an operand's block brings its block. -/
theorem fetched0 (hO : Ok m) (c : Dev nD) (t : Fin (cfgM m hO).N) (d) : (dats m hO 0 c).fetched 0 t d = iblk m hO c 0 t := by
  unfold Dat.fetched Dat.blockOf iblk; rw [A_eq m hO c 0]; try rfl
theorem fetched1 (hO : Ok m) (c : Dev nD) (t : Fin (cfgM m hO).N) (d) : (dats m hO 0 c).fetched 1 t d = iblk m hO c 1 t := by
  unfold Dat.fetched Dat.blockOf iblk; rw [A_eq m hO c 1]; try rfl
theorem fetched2 (hO : Ok m) (c : Dev nD) (t : Fin (cfgM m hO).N) (d) : (dats m hO 0 c).fetched 2 t d = iblk m hO c 2 t := by
  unfold Dat.fetched Dat.blockOf iblk; rw [A_eq m hO c 2]; try rfl
theorem fetched3 (hO : Ok m) (c : Dev nD) (t : Fin (cfgM m hO).N) (d) : (dats m hO 0 c).fetched 3 t d = iblk m hO c 3 t := by
  unfold Dat.fetched Dat.blockOf iblk; rw [A_eq m hO c 3]; try rfl

/-! Each operand's buffer holds its block at every point, fetched there or earlier. -/

theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after0]; unfold Dat.blockOf iblk; rw [A_eq m hO c 0]; try rfl) t d).trans (fetched0 m hO c t d)

theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after1]; unfold Dat.blockOf iblk; rw [A_eq m hO c 1]; try rfl) t d).trans (fetched1 m hO c t d)

theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after2]; unfold Dat.blockOf iblk; rw [A_eq m hO c 2]; try rfl) t d).trans (fetched2 m hO c t d)

theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after3]; unfold Dat.blockOf iblk; rw [A_eq m hO c 3]; try rfl) t d).trans (fetched3 m hO c t d)

/-- Two points whose words agree have the same block of weights 1. -/
theorem same1 (hO : Ok m) (c : Dev nD) (t t' : Fin (cfgM m hO).N) (h : wordAt m t = wordAt m t') :
    (iblk m hO c 1 t : Vec F S1x2048x512 .f32) = iblk m hO c 1 t' := by
  have hix : ((cfgM m hO).win 1).index t = ((cfgM m hO).win 1).index t' := by
    rw [show ((cfgM m hO).win 1).index t = ![(wordAt m t).toNat, 0, 0] from rfl, show ((cfgM m hO).win 1).index t' = ![(wordAt m t').toNat, 0, 0] from rfl, h]
  exact ((fetched1 m hO c t (fun _ => Classical.arbitrary _)).symm.trans ((dats m hO 0 c).fetched_congr 1 hix rfl _)).trans
    (fetched1 m hO c t' (fun _ => Classical.arbitrary _))

/-- Two points whose words agree have the same block of weights 2. -/
theorem same2 (hO : Ok m) (c : Dev nD) (t t' : Fin (cfgM m hO).N) (h : wordAt m t = wordAt m t') :
    (iblk m hO c 2 t : Vec F S1x2048x512 .f32) = iblk m hO c 2 t' := by
  have hix : ((cfgM m hO).win 2).index t = ((cfgM m hO).win 2).index t' := by
    rw [show ((cfgM m hO).win 2).index t = ![(wordAt m t).toNat, 0, 0] from rfl, show ((cfgM m hO).win 2).index t' = ![(wordAt m t').toNat, 0, 0] from rfl, h]
  exact ((fetched2 m hO c t (fun _ => Classical.arbitrary _)).symm.trans ((dats m hO 0 c).fetched_congr 2 hix rfl _)).trans
    (fetched2 m hO c t' (fun _ => Classical.arbitrary _))

/-- Two points whose words agree have the same block of weights 3. -/
theorem same3 (hO : Ok m) (c : Dev nD) (t t' : Fin (cfgM m hO).N) (h : wordAt m t = wordAt m t') :
    (iblk m hO c 3 t : Vec F S1x512x2048 .f32) = iblk m hO c 3 t' := by
  have hix : ((cfgM m hO).win 3).index t = ((cfgM m hO).win 3).index t' := by
    rw [show ((cfgM m hO).win 3).index t = ![(wordAt m t).toNat, 0, 0] from rfl, show ((cfgM m hO).win 3).index t' = ![(wordAt m t').toNat, 0, 0] from rfl, h]
  exact ((fetched3 m hO c t (fun _ => Classical.arbitrary _)).symm.trans ((dats m hO 0 c).fetched_congr 3 hix rfl _)).trans
    (fetched3 m hO c t' (fun _ => Classical.arbitrary _))

/-! ## The body at every point -/

theorem rest_eq (c : Dev nD) :
    (Pipeline.ΦA spec0 c : sProp 𝕄)
      = iprop(iprop((∃ d, owns (c : Thread nD τ) scr7 fullShare d) ∗ (∃ d, owns (c : Thread nD τ) scr8 fullShare d)) ∗ (∃ r, prngReg c r)) := by
  unfold Pipeline.ΦA; rw [scopedRest0_eq]; simp only [scr7, scr8, owns_whole]; try rfl

/-- What the body is called with at point `t`, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (buf0 m hO t) fullShare ((dats m hO 0 c).before 0 t d))
    ∗ (∃ d, owns (c : Thread nD τ) (buf1 m hO t) fullShare ((dats m hO 0 c).before 1 t d))
    ∗ (∃ d, owns (c : Thread nD τ) (buf2 m hO t) fullShare ((dats m hO 0 c).before 2 t d))
    ∗ (∃ d, owns (c : Thread nD τ) (buf3 m hO t) fullShare ((dats m hO 0 c).before 3 t d))
    ∗ (∃ d, owns (c : Thread nD τ) (buf4 m hO t) fullShare ((dats m hO 0 c).before 4 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (buf0 m hO t) fullShare ((dats m hO 0 c).after 0 t)
    ∗ owns (c : Thread nD τ) (buf1 m hO t) fullShare ((dats m hO 0 c).after 1 t)
    ∗ owns (c : Thread nD τ) (buf2 m hO t) fullShare ((dats m hO 0 c).after 2 t)
    ∗ owns (c : Thread nD τ) (buf3 m hO t) fullShare ((dats m hO 0 c).after 3 t)
    ∗ owns (c : Thread nD τ) (buf4 m hO t) fullShare ((dats m hO 0 c).after 4 t))

set_option maxHeartbeats 6400000 in
/-- The body at any point: the operands' buffers hold their blocks. Where the weights are packed anew the first case applies whatever the
    two packed buffers held; elsewhere the point before had the same expert, so what they hold is already this point's. -/
theorem body_at (hO : Ok m) (c : Dev nD) (t : Fin (cfgM m hO).N) :
    bodyPre m hO c t ⊢ wp frame (wpE (defs₀ (F := F)) Variants.none c none) Set.univ
      (cc0_expert_blocks (grid0.coords t) words words_whole (buf0 m hO t) (hstage0_0 (((cfgM m hO).slots t 0).cast nbuf0_0)) (buf1 m hO t) (hstage0_1 (((cfgM m hO).slots t 1).cast nbuf0_1))
        (buf2 m hO t) (hstage0_2 (((cfgM m hO).slots t 2).cast nbuf0_2)) (buf3 m hO t) (hstage0_3 (((cfgM m hO).slots t 3).cast nbuf0_3))
        (buf4 m hO t) (hstage0_4 (((cfgM m hO).slots t 4).cast nbuf0_4)) scr7 (Memref.isWhole_whole _) scr8 (Memref.isWhole_whole _))
      (fun _ => bodyPost m hO c t) := by
  unfold bodyPre bodyPost
  simp only [before0, before1, before2, before3]
  rw [show (dats m hO 0 c).owesAt () t.succ = (dats m hO 0 c).owesAt () t.castSucc from rfl,
    after0, after1, after2, after3, after4]
  rw [show (dats m hO 0 c).Φ t.succ = held m hO c (t.val + 1) t.isLt from rfl, held_succ m hO c t _ _ rfl, held_castSucc m hO c t]
  by_cases h : Reload (grid0.coords t) (wordHere c (grid0.coords t) (tbl m 0)) (wordBefore c (grid0.coords t) (tbl m 0))
  · have weaken : held m hO c t.val (Nat.le_of_lt t.isLt) ⊢ iprop(iprop(iprop((∃ d, owns (c : Thread nD τ) scr7 fullShare d) ∗ (∃ d, owns (c : Thread nD τ) scr8 fullShare d)) ∗ (∃ r, prngReg c r)) ∗ Pipeline.ΦT pre0 (tbl m) c) := by
      by_cases hz : t.val = 0
      · rw [held_zero m hO c _ _ hz, rest_eq]
      · rw [held_succ m hO c ⟨t.val - 1, by omega⟩ _ _ (by simp; omega)]
        iintro ⟨⟨⟨H7, H8⟩, Hg⟩, HT⟩
        isplitl [H7 H8 Hg]
        · isplitl [H7 H8]
          · isplitl [H7]
            · iexists _; iexact H7
            iexists _; iexact H8
          iexact Hg
        iexact HT
    refine (sep_mono weaken .rfl).trans ?_
    rw [tables_eq]
    iintro ⟨⟨⟨⟨H7, H8⟩, Hg⟩, HT⟩, Ho, ⟨%d0, H0⟩, ⟨%d1, H1⟩, ⟨%d2, H2⟩, ⟨%d3, H3⟩, ⟨%d4, H4⟩⟩
    iapply ((runReload c (grid0.coords t) _ _ _ _ _ _ _ _ _ _ _ _ _ _ (iblk m hO c 0 t) (iblk m hO c 1 t) (iblk m hO c 2 t) (iblk m hO c 3 t) (tbl m 0) h).2.2.2 Set.univ _)
    isplitl [H0]; · iexact H0
    isplitl [H1]; · iexact H1
    isplitl [H2]; · iexact H2
    isplitl [H3]; · iexact H3
    isplitl [H4]; · iexists _; iexact H4
    isplitl [H7]; · iexact H7
    isplitl [H8]; · iexact H8
    isplitl [HT]; · iexact HT
    iintro ⟨H0, H1, H2, H3, ⟨%e4, H4⟩, ⟨%e7, H7⟩, ⟨%e8, H8⟩, HT⟩
    isplitl [H7 H8 Hg HT]
    · isplitl [H7 H8 Hg]
      · isplitl [H7 H8]
        · isplitl [H7]
          · unfold owns; iexists _; isplitr
            swap; · iexact H7
            ipureintro; exact reload_packed c _ _ _ _ _ _ _ _ _ _ _ _ _ _ _ _ _ _ _ _ _ _ _
          unfold owns; iexists _; isplitr
          swap; · iexact H8
          ipureintro; exact reload_out c _ _ _ _ _ _ _ _ _ _ _ _ _ _ _ _ _ _ _ _ _ _ _
        iexact Hg
      iexact HT
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact reload_block c _ _ _ _ _ _ _ _ _ _ _ _ _ _ _ _ _ _ _ _ _ _ _
  · have hz : t.val ≠ 0 := fun hz => h (reload_first t hz _ _)
    have hb : t.val - 1 < (cfgM m hO).N := by omega
    have hw : wordAt m ⟨t.val - 1, hb⟩ = wordAt m t := by
      rw [← wordBefore_eq m c t ⟨t.val - 1, hb⟩ (by show t.val = t.val - 1 + 1; omega), ← wordHere_eq m c t]
      exact (keep_words _ _ _ h).symm
    rw [held_succ m hO c ⟨t.val - 1, hb⟩ t.val (Nat.le_of_lt t.isLt) (by show t.val = t.val - 1 + 1; omega)]
    rw [show packedAt m hO c ⟨t.val - 1, hb⟩ = packedAt m hO c t from by unfold packedAt; rw [same1 m hO c _ t hw, same2 m hO c _ t hw],
      show projAt m hO c ⟨t.val - 1, hb⟩ = projAt m hO c t from by unfold projAt; rw [same3 m hO c _ t hw]]
    rw [tables_eq]
    iintro ⟨⟨⟨⟨H7, H8⟩, Hg⟩, HT⟩, Ho, ⟨%d0, H0⟩, ⟨%d1, H1⟩, ⟨%d2, H2⟩, ⟨%d3, H3⟩, ⟨%d4, H4⟩⟩
    iapply ((runKeep c (grid0.coords t) _ _ _ _ _ _ _ _ _ _ _ _ _ _ (iblk m hO c 0 t) (iblk m hO c 1 t) (iblk m hO c 2 t) (iblk m hO c 3 t) (tbl m 0) (packedAt m hO c t) (projAt m hO c t) h).2 Set.univ _)
    isplitl [H0]; · iexact H0
    isplitl [H1]; · iexact H1
    isplitl [H2]; · iexact H2
    isplitl [H3]; · iexact H3
    isplitl [H4]; · iexists _; iexact H4
    isplitl [H7]; · iexact H7
    isplitl [H8]; · iexact H8
    isplitl [HT]; · iexact HT
    iintro ⟨H0, H1, H2, H3, ⟨%e4, H4⟩, H7, H8, HT⟩
    isplitl [H7 H8 Hg HT]
    · isplitl [H7 H8 Hg]
      · isplitl [H7 H8]
        · isplitl [H7]
          · iexact H7
          iexact H8
        iexact Hg
      iexact HT
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact keep_block c _ _ _ _ _ _ _ _ _ _ _ _ _ _ _ _ _ _ _ _ _ _ _ _ _

/-- The body's row of the table, at point `t`'s buffers. -/
theorem body_row (hO : Ok m) (t : Fin (cfgM m hO).N) :
    defs₀ (F := F) .tc (cfgM m hO).body ((cfgM m hO).bodyArgs t ((cfgM m hO).slots t))
      = cc0_expert_blocks (grid0.coords t) words words_whole (buf0 m hO t) (hstage0_0 (((cfgM m hO).slots t 0).cast nbuf0_0)) (buf1 m hO t) (hstage0_1 (((cfgM m hO).slots t 1).cast nbuf0_1))
        (buf2 m hO t) (hstage0_2 (((cfgM m hO).slots t 2).cast nbuf0_2)) (buf3 m hO t) (hstage0_3 (((cfgM m hO).slots t 3).cast nbuf0_3))
        (buf4 m hO t) (hstage0_4 (((cfgM m hO).slots t 4).cast nbuf0_4)) scr7 (Memref.isWhole_whole _) scr8 (Memref.isWhole_whole _) := by
  unfold defs₀; rw [Defs.onTc_tc]

/-- The body meets the pipeline's obligation at every point. -/
theorem body_obligation (hO : Ok m) (c : Dev nD) : BodyObligation (dats (F := F) m hO 0 c) (defs₀ (F := F)) Variants.none () Set.univ := fun t => by
  rw [bigSep_W0, bigSep_W0, body_row m hO]
  exact triple_restated (body_at m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = held m hO c 0 (Nat.zero_le _) from rfl, held_zero m hO c 0 _ rfl]
  try exact Idealize.SL.BI.Entails.refl _

theorem hout (hO : Ok m) (c : Dev nD) : (dats m hO 0 c).Φ (Fin.last (cfgM m hO).N) ⊢ Pipeline.ΦA spec0 c := by
  have hN : (cfgM m hO).N = 1216 := N_0
  rw [show (dats m hO 0 c).Φ (Fin.last (cfgM m hO).N) = held m hO c (cfgM m hO).N (le_refl _) from rfl,
    held_succ m hO c ⟨1215, by omega⟩ _ _ (by show (cfgM m hO).N = 1215 + 1; omega), rest_eq]
  iintro ⟨⟨⟨H7, H8⟩, Hg⟩, -⟩
  isplitl [H7 H8]
  · isplitl [H7]
    · iexists _; iexact H7
    iexists _; iexact H8
  iexact Hg

/-! ## The run and the frame -/

-- the launch theorem's implicit arguments are found by unfolding definitions in a metavariable's type
set_option backward.isDefEq.respectTransparency.types false in
/-- The program runs to its end from any memory; every array of the call ends as the data say, and every counter at zero. -/
theorem run_counters (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The same without the counters. -/
theorem run_main (hO : Ok m) : θ_run defs (onTc (τ := τ) (main (F := F))) (s₀ m ρ)
    (Pipeline.FramePost (Pipeline.pin pcfgs fun _ => adm m hO) (dats m hO) 0 (V m)) :=
  (θ_run defs _ _).mono (fun _ h => h.1) (run_counters m ρ hO)

/-- The arguments end as they began. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 1).trans (((dats m hO 0 c).arrAt_in 1 rfl _).trans ((A_eq m hO c 1).trans (V_main_arg3 m c))),
      ((h c).1 2).trans (((dats m hO 0 c).arrAt_in 2 rfl _).trans ((A_eq m hO c 2).trans (V_main_arg4 m c))),
      ((h c).1 3).trans (((dats m hO 0 c).arrAt_in 3 rfl _).trans ((A_eq m hO c 3).trans (V_main_arg5 m c)))⟩) (run_main m ρ hO)

/-- The frame: the program runs, leaves its arguments as they were and every counter at zero, for every table of experts in range. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_counters m ρ hO))

/-! ## The table, from the range of its entries -/

/-- The word the weights' index maps read at the point of coordinates `i` is the entry of the table argument there. -/
theorem word_eq (i : grid0.Coords) :
    (tbl m).at 0 (Rect.unit (s := S1216) (k0_off1 i) S1.size (k0_off1_inb i)) numel1_S1 = m (((0 : Dev nD) : Thread nD τ).loc main_arg2) (ix1 (i 0)) := by
  have ho : k0_off1 i 0 = (i 0).val := by
    have hlt : (i 0).val < 1216 := (i 0).isLt
    show (BitVec.ofNat 32 (i 0).val).toNat = _
    rw [BitVec.toNat_ofNat]
    omega
  unfold Pipeline.Prefetch.Contents.at
  show V m (0 : Dev nD) main_arg2 _ = _
  rw [V_main_arg2]
  refine congrArg _ (funext fun a => ?_)
  match a with
  | ⟨0, _⟩ => exact Fin.ext (by show k0_off1 i 0 + _ = (i 0).val; rw [ho]; simp)

/-- Where every entry of the table argument is at least 0 and less than 64, every word names an expert. -/
theorem ok_of_range (h : ∀ t : Fin 1216, 0 ≤ (m (((0 : Dev nD) : Thread nD τ).loc main_arg2) (ix1 t) : BitVec 32).toInt
    ∧ (m (((0 : Dev nD) : Thread nD τ).loc main_arg2) (ix1 t) : BitVec 32).toInt < 64) : Ok m := by
  have hw : ∀ i : grid0.Coords, ((tbl m).at 0 (Rect.unit (s := S1216) (k0_off1 i) S1.size (k0_off1_inb i)) numel1_S1 : BitVec 32).toNat < 64 := fun i => by
    rw [word_eq m i]
    have := h (i 0)
    rw [BitVec.toInt_eq_toNat_cond] at this
    split at this <;> omega
  refine ⟨fun i => ⟨fun a => ?_, Or.inl rfl⟩, fun i => ⟨fun a => ?_, Or.inl rfl⟩, fun i => ⟨fun a => ?_, Or.inl rfl⟩⟩ <;>
  · have key : (((tbl m).at 0 (Rect.unit (s := S1216) (k0_off1 i) S1.size (k0_off1_inb i)) numel1_S1 : BitVec 32).toNat + 1) * 1 ≤ 64 := by have := hw i; omega
    match a with
    | ⟨0, _⟩ => exact key
    | ⟨1, _⟩ => exact le_refl _
    | ⟨2, _⟩ => exact le_refl _

theorem andi_one (a b : BitVec 1) : IntOp.andi a b = 1#1 ↔ a = 1#1 ∧ b = 1#1 := by revert a b; decide

/-- The precondition says of every entry of the table argument that it is at least 0 and less than 64. -/
theorem range_of_pre [Cert.Pre_names_experts.Facts] (x0 : FVec F S36864x2048 .f32) (x1 : IVec S311296 32) (x2 : IVec S1216 32) (x3 x4 : FVec F S64x2048x512 .f32) (x5 : FVec F S64x512x2048 .f32)
    (pre : Cert.Pre_names_experts.fn x0 x1 x2 x3 x4 x5 = fun _ => 1#1) (t : Fin 1216) : 0 ≤ (x2 (ix1 t)).toInt ∧ (x2 (ix1 t)).toInt < 64 := by
  have h := congrFun pre (ix1 t)
  simp only [Cert.Pre_names_experts.fn, constantI, broadcastInDim, cmpi, andi, andi_one] at h
  obtain ⟨h1, h2⟩ := h
  constructor
  · by_contra hc
    have : IntOp.cmpi .sge (x2 (ix1 t)) 0#32 = 0#1 := by
      simp only [IntOp.cmpi, BitVec.sle, BitVec.toInt_zero]
      rw [decide_eq_false hc]; rfl
    rw [this] at h1
    exact absurd h1 (by decide)
  · by_contra hc
    have e : (64#32).toInt = 64 := by decide
    have : IntOp.cmpi .slt (x2 (ix1 t)) 64#32 = 0#1 := by
      simp only [IntOp.cmpi, BitVec.slt, e]
      rw [decide_eq_false hc]; rfl
    rw [this] at h2
    exact absurd h2 (by decide)

end Cert.Kernel2Ideal.Expert

end
-- ==== Proof.Gated.lean ====
/- One feature of a gated feed-forward layer's output for one row, over the extended reals, in plain terms. -/
module

public import Idealize.ShloMosaic.Lib.Pointwise

@[expose] public section

set_option maxRecDepth 16384

noncomputable section

open Idealize.ShloMosaic

namespace Cert.Gated

/-- A hidden feature: the first projection times its logistic function, times the second projection. -/
def gate (a b : EReal) : EReal := a * Ideal.logistic a * b

/-- The layer at one output feature: the row `x` through both input projections `u` and `v`, the gate, and the output projection's
    column `w`. -/
def ffn {n h : ℕ} (x : Fin n → EReal) (u v : Fin n → Fin h → EReal) (w : Fin h → EReal) : EReal :=
  ∑ k, gate (∑ j, x j * u j k) (∑ j, x j * v j k) * w k

theorem ffn_congr {n h : ℕ} {x x' : Fin n → EReal} {u u' v v' : Fin n → Fin h → EReal} {w w' : Fin h → EReal}
    (hx : ∀ j, x j = x' j) (hu : ∀ j k, u j k = u' j k) (hv : ∀ j k, v j k = v' j k) (hw : ∀ k, w k = w' k) :
    ffn x u v w = ffn x' u' v' w' := by
  obtain rfl : x = x' := funext hx
  obtain rfl : u = u' := funext fun j => funext (hu j)
  obtain rfl : v = v' := funext fun j => funext (hv j)
  obtain rfl : w = w' := funext hw
  rfl

end Cert.Gated

end
-- ==== Proof.ExpertBlock.lean ====
/- What the expert kernel's body stores for one grid point, read at an index: the gated feed-forward layer (`Cert.Gated`) of one row
   with the point's weights. -/
module

public import proofs.«01_k».proof.Proof.ExpertFrameIdeal
public import proofs.«01_k».proof.Proof.Gated

@[expose] public section

set_option maxRecDepth 16384

noncomputable section

open Idealize.ShloMosaic Idealize.ShloMosaic.TcCoe Idealize.SL.Sem

namespace Cert.Kernel2Ideal.Expert

open Cert.Kernel2Ideal Cert.Kernel2Ideal.Gen Cert.Gated

/-- The product of the rows with the packed weights, gated, and the product with the output projection. -/
theorem pay4_apply (x : Vec Ideal S256x2048 .bf16) (p : Vec Ideal S2048x1024 .bf16) (w : Vec Ideal S512x2048 .bf16) (r : Fin 256) (d : Fin 2048) :
    k0_pay4 x p w (ix2 r d)
      = ffn (fun j => x (ix2 r j)) (fun j k => p (ix2 j ⟨k, by omega⟩)) (fun j k => p (ix2 j ⟨512 + k, by omega⟩)) (fun k => w (ix2 k d)) := by
  unfold ffn gate
  pointwise [k0_pay4]

/-- A block of weights, rounded. -/
theorem pay1_apply (x : Vec Ideal S1x2048x512 .f32) (j : Fin 2048) (k : Fin 512) : k0_pay1 x (ix2 j k) = x (ix3 0 j k) := by
  pointwise [k0_pay1]
theorem pay2_apply (x : Vec Ideal S1x2048x512 .f32) (j : Fin 2048) (k : Fin 512) : k0_pay2 x (ix2 j k) = x (ix3 0 j k) := by
  pointwise [k0_pay2]
theorem pay3_apply (x : Vec Ideal S1x512x2048 .f32) (k : Fin 512) (d : Fin 2048) : k0_pay3 x (ix2 k d) = x (ix3 0 k d) := by
  pointwise [k0_pay3]

/-- The first 512 columns of the packed weights are the first projection, -/
theorem packed_left (x1 x2 : Vec Ideal S1x2048x512 .f32) (j : Fin 2048) (k : Fin 512) :
    packed x1 x2 (ix2 j ⟨k, by omega⟩) = x1 (ix3 0 j k) := by
  unfold packed
  canon_tiles x h
  · have h' : (k : ℕ) = 512 + (x 1 : ℕ) := h1
    omega
  · have e0 : x 0 = j := Fin.ext h0.symm
    have e1 : x 1 = k := Fin.ext h1.symm
    rw [eq_ix2 x, e0, e1]
    exact pay1_apply x1 j k

/-- and the others the second. -/
theorem packed_right (x1 x2 : Vec Ideal S1x2048x512 .f32) (j : Fin 2048) (k : Fin 512) :
    packed x1 x2 (ix2 j ⟨512 + k, by omega⟩) = x2 (ix3 0 j k) := by
  unfold packed
  canon_tiles x h
  · have e0 : x 0 = j := Fin.ext h0.symm
    have h' : 512 + (k : ℕ) = 512 + (x 1 : ℕ) := h1
    have e1 : x 1 = k := Fin.ext (by omega)
    rw [eq_ix2 x, e0, e1]
    exact pay2_apply x2 j k
  · have h' : 512 + (k : ℕ) = (x 1 : ℕ) := h1
    omega

/-- The stored block at a row and a feature. -/
theorem blockOut_apply (x0 : Vec Ideal S256x2048 .bf16) (x1 x2 : Vec Ideal S1x2048x512 .f32) (x3 : Vec Ideal S1x512x2048 .f32) (r : Fin 256) (d : Fin 2048) :
    blockOut x0 x1 x2 x3 (ix2 r d)
      = ffn (fun j => x0 (ix2 r j)) (fun j k => x1 (ix3 0 j k)) (fun j k => x2 (ix3 0 j k)) (fun k => x3 (ix3 0 k d)) := by
  unfold blockOut
  rw [pay4_apply]
  exact ffn_congr (fun _ => rfl) (packed_left x1 x2) (packed_right x1 x2) (fun k => pay3_apply x3 k d)

end Cert.Kernel2Ideal.Expert

end
-- ==== Proof.ExpertRead.lean ====
/- The reference's value read at an index: the gated feed-forward layer (`Cert.Gated`) of one gathered row with the weights its block's
   table entry names. -/
module

public import proofs.«01_k».proof.Proof.Gen.Reference2Ideal.Read
public import proofs.«01_k».proof.Proof.Gated

@[expose] public section

set_option maxRecDepth 16384

noncomputable section

open Idealize.ShloMosaic Idealize.ShloMosaic.TcCoe Idealize.SL.Sem

namespace Cert.Reference2Ideal.Expert

open Cert.Reference2Ideal Cert.Reference2Ideal.Gen Cert.Reference2Ideal.Read Cert.Gated

/-- Taking blocks of an array of 64 by start indices whose first component is `e < 64` and whose other two are zero: the result at
    `(t, 0, j, k)` is the array at `(e, j, k)`. -/
theorem take_block {α : Type} {a b n : ℕ} (d : GatherDims ⟨3, ![64, a, b]⟩ ⟨2, ![n, 3]⟩ ⟨4, ![n, 1, a, b]⟩)
    (hoff : d.offsetDims = [1, 2, 3]) (hcoll : d.collapsedSliceDims = []) (hob : d.operandBatchingDims = [])
    (hsim : d.startIndexMap = [0, 1, 2]) (hivd : d.indexVectorDim = 1) (hsl : d.sliceSizes = ![1, a, b])
    (x : (⟨3, ![64, a, b]⟩ : Shape).Idx → α) (idx : IVec ⟨2, ![n, 3]⟩ 32) (t : Fin n) (j : Fin a) (k : Fin b) (e : Fin 64)
    (he : (idx (ix2 t 0)).toInt.toNat = e) :
    Host.gather d x idx (ix4 t 0 j k) = x (ix3 e j k) := by
  obtain ⟨od, cd, obd, sbd, sim, ivd, ss, wf⟩ := d
  simp only at hoff hcoll hob hsim hivd hsl
  subst hoff hcoll hob hsim hivd hsl
  unfold Host.gather
  refine congrArg x (funext fun q => Fin.ext ?_)
  show GatherDims.start _ (ix4 t 0 j k) idx q + GatherDims.batchCoord _ (ix4 t 0 j k) q + GatherDims.offCoord _ (ix4 t 0 j k) q = _
  rw [GatherDims.batchCoord_eq_zero _ _ _ List.not_mem_nil]
  unfold GatherDims.start
  match q with
  | ⟨0, _⟩ =>
    rw [dif_pos (by simp)]
    have hlt := e.isLt
    have key : ∀ u : (⟨2, ![n, 3]⟩ : Shape).Idx, u = ix2 t 0 → min (idx u).toInt.toNat (64 - 1) + 0 + 0 = (e : ℕ) := by
      rintro _ rfl; rw [he]; omega
    refine key _ ?_
    funext b'
    match b' with
    | ⟨0, _⟩ => rfl
    | ⟨1, _⟩ => rfl
  | ⟨1, _⟩ =>
    rw [dif_pos (by simp)]
    show min _ (a - a) + 0 + (j : ℕ) = j
    omega
  | ⟨2, _⟩ =>
    rw [dif_pos (by simp)]
    show min _ (b - b) + 0 + (k : ℕ) = k
    omega

variable (x0 : (⟨S36864x2048, .f32⟩ : BufTy).Contents (Elt Ideal)) (x1 : (⟨S311296, .i32⟩ : BufTy).Contents (Elt Ideal))
  (x2 : (⟨S1216, .i32⟩ : BufTy).Contents (Elt Ideal)) (x3 x4 : (⟨S64x2048x512, .f32⟩ : BufTy).Contents (Elt Ideal))
  (x5 : (⟨S64x512x2048, .f32⟩ : BufTy).Contents (Elt Ideal))

/-- A word that is not negative is taken as it is. -/
theorem wrap_of_nonneg (w : BitVec 32) (h : (0#32).sle w = true) : Scalar.select (IntOp.cmpi .slt w 0#32) (IntOp.addi w 64#32) w = w := by
  have : IntOp.cmpi .slt w 0#32 = 0#1 := by
    simp only [IntOp.cmpi]
    simp only [BitVec.sle, BitVec.slt, decide_eq_true_eq, BitVec.toInt_zero] at h ⊢
    rw [decide_eq_false (by omega)]; rfl
  rw [this]; rfl

/-- The start indices of the first projection's blocks, -/
theorem v22_apply (t : Fin 1216) (h : (0#32).sle (x2 (ix1 t)) = true) : val_main_v22 (F := Ideal) x2 (ix2 t 0) = x2 (ix1 t) := by
  refine Eq.trans ?_ (wrap_of_nonneg _ h)
  pointwise [val_main_v22, val_main_v19, val_main_v12, val_main_v9, val_main_v8, val_main_c_1, val_main_v11, val_main_v10, val_main_c_2]

/-- of the second's, -/
theorem v39_apply (t : Fin 1216) (h : (0#32).sle (x2 (ix1 t)) = true) : val_main_v39 (F := Ideal) x2 (ix2 t 0) = x2 (ix1 t) := by
  refine Eq.trans ?_ (wrap_of_nonneg _ h)
  pointwise [val_main_v39, val_main_v36, val_main_v29, val_main_v26, val_main_v25, val_main_c_13, val_main_v28, val_main_v27, val_main_c_14]

/-- and of the output projection's. -/
theorem v56_apply (t : Fin 1216) (h : (0#32).sle (x2 (ix1 t)) = true) : val_main_v56 (F := Ideal) x2 (ix2 t 0) = x2 (ix1 t) := by
  refine Eq.trans ?_ (wrap_of_nonneg _ h)
  pointwise [val_main_v56, val_main_v53, val_main_v46, val_main_v43, val_main_v42, val_main_c_25, val_main_v45, val_main_v44, val_main_c_26]

/-- The rows of a block are consecutive gathered rows. -/
theorem v7_apply (t : Fin 1216) (r : Fin 256) (j : Fin 2048) : val_main_v7 x0 x1 (ix3 t r j) = val_main_v6 x0 x1 (ix2 ⟨t * 256 + r, by omega⟩ j) := by
  pointwise [val_main_v7]

/-- A hidden feature after the gate. -/
theorem v62_apply (t : Fin 1216) (r : Fin 256) (k : Fin 512) : val_main_v62 x0 x1 x2 x3 x4 (ix3 t r k)
    = gate (val_main_v59 x0 x1 x2 x3 (ix3 t r k)) (val_main_v61 x0 x1 x2 x4 (ix3 t r k)) := by
  unfold gate Ideal.logistic
  pointwise [val_main_v62, val_main_v60, val_main_call0_v5, val_main_call0_v4, val_main_call0_cst_0, val_main_call0_v3,
    val_main_call0_v2, val_main_call0_cst, val_main_call0_v1, val_main_call0_v0]

variable (t : Fin 1216) (e : Fin 64) (h : (0#32).sle (x2 (ix1 t)) = true) (he : (x2 (ix1 t)).toInt.toNat = e)
include h he

/-- A block's weights are those of the expert its table entry names: the first projection, -/
theorem v24_apply (j : Fin 2048) (k : Fin 512) : val_main_v24 x2 x3 (ix3 t j k) = x3 (ix3 e j k) := by
  refine Eq.trans (b := val_main_v23 x2 x3 (ix4 t 0 j k)) (by pointwise [val_main_v24]) ?_
  exact take_block _ rfl rfl rfl rfl rfl rfl x3 _ t j k e (by rw [v22_apply x2 t h, he])

/-- the second, -/
theorem v41_apply (j : Fin 2048) (k : Fin 512) : val_main_v41 x2 x4 (ix3 t j k) = x4 (ix3 e j k) := by
  refine Eq.trans (b := val_main_v40 x2 x4 (ix4 t 0 j k)) (by pointwise [val_main_v41]) ?_
  exact take_block _ rfl rfl rfl rfl rfl rfl x4 _ t j k e (by rw [v39_apply x2 t h, he])

/-- and the output projection. -/
theorem v58_apply (k : Fin 512) (d : Fin 2048) : val_main_v58 x2 x5 (ix3 t k d) = x5 (ix3 e k d) := by
  refine Eq.trans (b := val_main_v57 x2 x5 (ix4 t 0 k d)) (by pointwise [val_main_v58]) ?_
  exact take_block _ rfl rfl rfl rfl rfl rfl x5 _ t k d e (by rw [v56_apply x2 t h, he])

/-- A hidden feature before the gate: the first projection, -/
theorem v59_apply (r : Fin 256) (k : Fin 512) : val_main_v59 x0 x1 x2 x3 (ix3 t r k)
    = ∑ j, val_main_v6 x0 x1 (ix2 ⟨t * 256 + r, by omega⟩ j) * x3 (ix3 e j k) := by
  refine Eq.trans (b := ∑ j, val_main_v7 x0 x1 (ix3 t r j) * val_main_v24 x2 x3 (ix3 t j k)) (by pointwise [val_main_v59]) ?_
  exact Finset.sum_congr rfl fun j _ => by rw [v7_apply, v24_apply x2 x3 t e h he]

/-- and the second. -/
theorem v61_apply (r : Fin 256) (k : Fin 512) : val_main_v61 x0 x1 x2 x4 (ix3 t r k)
    = ∑ j, val_main_v6 x0 x1 (ix2 ⟨t * 256 + r, by omega⟩ j) * x4 (ix3 e j k) := by
  refine Eq.trans (b := ∑ j, val_main_v7 x0 x1 (ix3 t r j) * val_main_v41 x2 x4 (ix3 t j k)) (by pointwise [val_main_v61]) ?_
  exact Finset.sum_congr rfl fun j _ => by rw [v7_apply, v41_apply x2 x4 t e h he]

/-- The reference at a row and a feature. -/
theorem v64_apply (r : Fin 256) (d : Fin 2048) : val_main_v64 x0 x1 x2 x3 x4 x5 (ix2 ⟨t * 256 + r, by omega⟩ d)
    = ffn (fun j => val_main_v6 x0 x1 (ix2 ⟨t * 256 + r, by omega⟩ j)) (fun j k => x3 (ix3 e j k)) (fun j k => x4 (ix3 e j k))
        (fun k => x5 (ix3 e k d)) := by
  refine Eq.trans (b := val_main_v63 x0 x1 x2 x3 x4 x5 (ix3 t r d)) ?_ ?_
  · rw [val_main_v64_apply]
    refine congrArg _ (funext fun a => Fin.ext ?_)
    match a with
    | ⟨0, _⟩ => show (((t : ℕ) * 256 + (r : ℕ)) * 2048 + (d : ℕ)) / 524288 = (t : ℕ); omega
    | ⟨1, _⟩ => show (((t : ℕ) * 256 + (r : ℕ)) * 2048 + (d : ℕ)) / 2048 % 256 = (r : ℕ); omega
    | ⟨2, _⟩ => show (((t : ℕ) * 256 + (r : ℕ)) * 2048 + (d : ℕ)) % 2048 = (d : ℕ); omega
  refine Eq.trans (b := ∑ k, val_main_v62 x0 x1 x2 x3 x4 (ix3 t r k) * val_main_v58 x2 x5 (ix3 t k d)) (by pointwise [val_main_v63]) ?_
  unfold ffn
  refine Finset.sum_congr rfl fun k _ => ?_
  rw [v62_apply, v59_apply x0 x1 x2 x3 t e h he, v61_apply x0 x1 x2 x4 t e h he, v58_apply x2 x5 t e h he]

end Cert.Reference2Ideal.Expert

end
-- ==== Proof.ExpertFinal.lean ====
/- The expert kernel's result array after its run, as one function of the argument arrays. -/
module

public import proofs.«01_k».proof.Proof.ExpertBlock
public import proofs.«01_k».proof.Proof.ExpertRead

@[expose] public section

set_option maxRecDepth 16384

noncomputable section

open Idealize.ShloMosaic Idealize.ShloMosaic.TcCoe Idealize.SL.Sem
open Idealize.ShloMosaic.Pipeline (Dat)

namespace Cert.Kernel2Ideal.Expert

open Cert.Kernel2Ideal Cert.Kernel2Ideal.Gen Cert.Gated

variable (m : (ℓ : Loc nD τ sig) → Buf (Elt Ideal) ℓ) (hO : Ok m)

/-- The blocks' numbers at a grid point: the rows and the result move with the point, -/
theorem idx_rows (t : Fin (cfgM m hO).N) : ((cfgM m hO).win 0).index t = ![t.val, 0] ∧ ((cfgM m hO).win 4).index t = ![t.val, 0] :=
  (by decide +kernel : ∀ t : Fin grid0.N, (cc0_transform_0 (grid0.coords t) = ![t.val, 0] ∧ cc0_transform_4 (grid0.coords t) = ![t.val, 0])) t

/-- The gathered rows are the reference's. -/
theorem V7 (c : Dev nD) (i : Fin 311296) (j : Fin 2048) : V m c main_v7 (ix2 i j)
    = Cert.Reference2Ideal.Read.val_main_v6 (F := Ideal) (m ((c : Thread nD τ).loc main_arg0)) (m ((c : Thread nD τ).loc main_arg1)) (ix2 i j) := by
  entry_read
  rfl

/-- The number of a grid point, and of a block's entry in the table. -/
theorem tlt (t : Fin (cfgM m hO).N) : t.val < 1216 := lt_of_lt_of_eq t.isLt N_0
def tOf (t : Fin (cfgM m hO).N) : Fin 1216 := ⟨t.val, tlt m hO t⟩

/-- The word at a grid point is the table argument's entry there. -/
theorem wordAt_eq (t : Fin (cfgM m hO).N) : wordAt m t = m (((0 : Dev nD) : Thread nD τ).loc main_arg2) (ix1 (tOf m hO t)) := by
  have e : (grid0.coords t 0).val = t.val := (by decide +kernel : ∀ t : Fin grid0.N, (grid0.coords t 0).val = t.val) t
  unfold wordAt
  rw [word_eq]
  exact congrArg _ (congrArg ix1 (Fin.ext e))

/-- The block of rows. -/
theorem I0 (t : Fin (cfgM m hO).N) (c : Dev nD) (r : Fin 256) (j : Fin 2048) : iblk m hO c 0 t (ix2 r j) = V m c main_v7 (ix2 ⟨tOf m hO t * 256 + r, by omega⟩ j) := by
  have hi := idx_rows m hO t
  blk_ext [iblk, hi, tOf]

/-- Where an element of a point's block of the result lies in the result. -/
theorem out_emb (t : Fin (cfgM m hO).N) (r : Fin 256) (d : Fin 2048) : (((cfgM m hO).win 4).blk t).view.emb (ix2 r d) = ix2 ⟨tOf m hO t * 256 + r, by omega⟩ d := by
  have hi := idx_rows m hO t
  blk_ext [hi, tOf]

variable (t : Fin (cfgM m hO).N) (e : Fin 64) (he : (wordAt m t).toNat = e)
include he

/-- and the weights with the expert of its table entry. -/
theorem idx_weights : ((cfgM m hO).win 1).index t = ![e.val, 0, 0] ∧ ((cfgM m hO).win 2).index t = ![e.val, 0, 0]
    ∧ ((cfgM m hO).win 3).index t = ![e.val, 0, 0] := by
  refine ⟨?_, ?_, ?_⟩
  · rw [← he]; rfl
  · rw [← he]; rfl
  · rw [← he]; rfl

/-- The block of the first projection, -/
theorem I1 (c : Dev nD) (j : Fin 2048) (k : Fin 512) : iblk m hO c 1 t (ix3 0 j k) = V m c main_arg3 (ix3 e j k) := by
  have hi := idx_weights m hO t e he
  blk_ext [iblk, hi]

/-- of the second, -/
theorem I2 (c : Dev nD) (j : Fin 2048) (k : Fin 512) : iblk m hO c 2 t (ix3 0 j k) = V m c main_arg4 (ix3 e j k) := by
  have hi := idx_weights m hO t e he
  blk_ext [iblk, hi]

/-- and of the output projection. -/
theorem I3 (c : Dev nD) (k : Fin 512) (d : Fin 2048) : iblk m hO c 3 t (ix3 0 k d) = V m c main_arg5 (ix3 e k d) := by
  have hi := idx_weights m hO t e he
  blk_ext [iblk, hi]

omit t e he in
/-- Every point writes its block of the result back, and the blocks fill the result. -/
theorem covers : ((cfgM m hO).win 4).Covers := by
  refine ⟨fun a => (by decide +kernel : ∀ a : Fin 2, 0 < S256x2048.size a) a, fun β => ?_⟩
  have hb : (β (0 : Fin 2)).val < 1216 := lt_of_lt_of_eq (β (0 : Fin 2)).isLt (by decide : (311296 + 256 - 1) / 256 = 1216)
  have hb' : (β (1 : Fin 2)).val < 1 := lt_of_lt_of_eq (β (1 : Fin 2)).isLt (by decide : (2048 + 2048 - 1) / 2048 = 1)
  let t : Fin (cfgM m hO).N := ⟨(β (0 : Fin 2)).val, lt_of_lt_of_eq hb N_0.symm⟩
  refine ⟨t, (by decide +kernel : ∀ t : Fin grid0.N, Pipeline.Window.flushOf grid0 true cc0_transform_4 t = true) t, ?_⟩
  rw [(idx_rows m hO t).2]
  refine fun (a : Fin 2) => ⟨?_, Or.inl rfl⟩
  match a with
  | 0 => rfl
  | 1 => exact (Nat.lt_one_iff.mp hb').symm

omit t e he in
/-- The kernel's result array after its run is the reference's value of the same arguments. -/
theorem final (c : Dev nD) (hr : ∀ t : Fin 1216, 0 ≤ (m ((c : Thread nD τ).loc main_arg2) (ix1 t) : BitVec 32).toInt
      ∧ (m ((c : Thread nD τ).loc main_arg2) (ix1 t) : BitVec 32).toInt < 64) :
    (dats m hO 0 c).arrAt 4 (cfgM m hO).N
    = Cert.Reference2Ideal.Read.val_main_v64 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m hO 0 c).arrAt_eq_of_covers 4 _ (covers m hO) fun t _ y => ?_
  blk_simp
  rw [after4]; unfold outAt
  obtain ⟨r, d, rfl⟩ : ∃ (r : Fin 256) (d : Fin 2048), y = (ix2 r d : S256x2048.Idx) := ⟨y (0 : Fin 2), y (1 : Fin 2), eq_ix2 (y : S256x2048.Idx)⟩
  obtain rfl : c = 0 := Subsingleton.elim _ _
  obtain ⟨h0, h1⟩ := hr (tOf m hO t)
  have hw := wordAt_eq m hO t
  rw [← hw] at h0 h1
  have e0 : (wordAt m t).toInt.toNat = (wordAt m t).toNat := by
    rw [BitVec.toInt_eq_toNat_cond] at h0 ⊢
    split at h0 <;> simp_all <;> omega
  have elt : (wordAt m t).toNat < 64 := by omega
  have hs : (0#32).sle (m (((0 : Dev nD) : Thread nD τ).loc main_arg2) (ix1 (tOf m hO t))) = true := by
    rw [← hw, BitVec.sle]; exact decide_eq_true h0
  have hn : (m (((0 : Dev nD) : Thread nD τ).loc main_arg2) (ix1 (tOf m hO t)) : BitVec 32).toInt.toNat = (⟨_, elt⟩ : Fin 64).val := by
    rw [← hw]; exact e0
  rw [out_emb m hO t r d]
  refine (blockOut_apply _ _ _ _ r d).trans (Eq.trans ?_ (Cert.Reference2Ideal.Expert.v64_apply _ _ _ _ _ _ (tOf m hO t) ⟨_, elt⟩ hs hn r d).symm)
  exact Cert.Gated.ffn_congr (fun j => (I0 m hO t 0 r j).trans (V7 m 0 _ j))
    (fun j k => (I1 m hO t ⟨_, elt⟩ rfl 0 j k).trans (congrFun (V_main_arg3 m 0) _))
    (fun j k => (I2 m hO t ⟨_, elt⟩ rfl 0 j k).trans (congrFun (V_main_arg4 m 0) _))
    (fun k => (I3 m hO t ⟨_, elt⟩ rfl 0 k d).trans (congrFun (V_main_arg5 m 0) _))

omit t e he hO in
/-- The run, its result the reference's value and its arguments as they were, where the blocks' experts are experts. -/
theorem run (ρ : Dev nD → PrngReg) (hr : ∀ t : Fin 1216, 0 ≤ (m (((0 : Dev nD) : Thread nD τ).loc main_arg2) (ix1 t) : BitVec 32).toInt
      ∧ (m (((0 : Dev nD) : Thread nD τ).loc main_arg2) (ix1 t) : BitVec 32).toInt < 64) :
    θ_run defs (onTc (τ := τ) (main (F := Ideal))) ⟨m, fun _ => 0, ρ⟩ (fun r => ∀ c : Dev nD,
      r.2.mem ((c.tc : Thread nD τ).loc main_v8)
        = Cert.Reference2Ideal.Read.val_main_v64 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  have hO := ok_of_range m hr
  (θ_run defs _ _).mono (fun _ h c => ⟨((h.1 c).1 4).trans (final m hO c (by obtain rfl : c = 0 := Subsingleton.elim _ _; exact hr)), h.2 c⟩)
    (θ_run_and (run_main m ρ hO) (unchanged m ρ hO))

end Cert.Kernel2Ideal.Expert

end
-- ==== Proof.InFrame.lean ====
/- The input projection over any numbers: it runs to its end and leaves its arguments unchanged. -/
module

public import proofs.«01_k».proof.Proof.Gen.Kernel3.Frame
public import proofs.«01_k».proof.Proof.Gen.Kernel3.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.Claim

@[expose] public section

set_option maxRecDepth 16384

noncomputable section

namespace Cert.Kernel3.InProjection

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.Kernel3.Gen

variable {F : FTy → Type} [FloatOps F]

local notation "𝕄" => MT nD τ sig Unit (Elt F) ℕ (UR sig nD τ) ℕ

/-- The body's branch: the rows are normalised and modulated at the first block of columns. -/
abbrev First (i : grid0.Coords) : Prop :=
  (Scalar.cmpi .ne (Scalar.extui (Scalar.cmpi .eq (BitVec.ofNat 32 (i 1).val) 0#32)) 0#32) = 1#1

set_option maxHeartbeats 1000000 in
/-- The body at the first block of columns: on the operands' buffers at their contents it runs to the continuation with the operands as
    they were, and with the stores it made, into the result's block (`L7`) and the normalised rows (`L8`), found by running it. -/
noncomputable def runFill (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x1x2048 .f32) (harg4 : arg4.IsWhole) (arg5 : Memref sig .tc .vmem S1x1x2048 .f32) (harg5 : arg5.IsWhole)
    (arg6 : Memref sig .tc .vmem S2048x512 .f32) (harg6 : arg6.IsWhole) (arg7 : Memref sig .tc .vmem S1024x512 .f32) (harg7 : arg7.IsWhole)
    (arg8 : Memref sig .tc .vmem S1024x2048 .bf16) (harg8 : arg8.IsWhole)
    (x0 : Vec F S1024x2048 .f32) (x1 : Vec F S1x2048 .f32) (x2 : Vec F S1x1x2048 .f32) (x3 : Vec F S1x1x2048 .f32) (x4 : Vec F S2048x512 .f32)
    (hc : First i) :
    Σ' (L7 : List (View.Piece (Elt F) S1024x512 .f32)), { L8 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)) -∗ K ⟨⟩))
          ⊢ wp frame (wpE (defs₀ (F := F)) Variants.none c none) E (cc0_norm_mod_matmul i arg2 harg2 arg3 harg3 arg4 harg4 arg5 harg5 arg6 harg6 arg7 harg7 arg8 harg8) K } := by
  refine ⟨?_, ?_, fun E K => ?run⟩
  case run =>
    simp only [cc0_norm_mod_matmul_eq_skeleton]; unfold cc0_norm_mod_matmul_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    iexists _; iexact H8

set_option maxHeartbeats 1000000 in
/-- The body at a later block of columns: the normalised rows are read as they are and stay; `L7` is what it stores into the result's block. -/
noncomputable def runReuse (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x1x2048 .f32) (harg4 : arg4.IsWhole) (arg5 : Memref sig .tc .vmem S1x1x2048 .f32) (harg5 : arg5.IsWhole)
    (arg6 : Memref sig .tc .vmem S2048x512 .f32) (harg6 : arg6.IsWhole) (arg7 : Memref sig .tc .vmem S1024x512 .f32) (harg7 : arg7.IsWhole)
    (arg8 : Memref sig .tc .vmem S1024x2048 .bf16) (harg8 : arg8.IsWhole)
    (x0 : Vec F S1024x2048 .f32) (x1 : Vec F S1x2048 .f32) (x2 : Vec F S1x1x2048 .f32) (x3 : Vec F S1x1x2048 .f32) (x4 : Vec F S2048x512 .f32)
    (s8 : Vec F S1024x2048 .bf16) (hc : ¬First i) :
    { L7 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare s8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L7) ∗ owns (c : Thread nD τ) arg8 fullShare s8) -∗ K ⟨⟩))
          ⊢ wp frame (wpE (defs₀ (F := F)) Variants.none c none) E (cc0_norm_mod_matmul i arg2 harg2 arg3 harg3 arg4 harg4 arg5 harg5 arg6 harg6 arg7 harg7 arg8 harg8) K } := by
  refine ⟨?_, fun E K => ?run⟩
  case run =>
    simp only [cc0_norm_mod_matmul_eq_skeleton]; unfold cc0_norm_mod_matmul_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hf8
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    iexists _; isplitr; · ipureintro; exact harg8.read_unread _
    iexact H8

variable (m : (ℓ : Loc nD τ sig) → Buf (Elt F) ℓ) (ρ : Dev nD → PrngReg)

/-- The buffer of normalised rows, and each window's current buffer at point `t`. -/
abbrev scr8 : Memref sig .tc .vmem S1024x2048 .bf16 := Memref.whole cc0_scratch0
abbrev buf0 (t : Fin cfg0.N) : Memref sig .tc .vmem S1024x2048 .f32 := win0_0.stage (cfg0.slots t 0)
abbrev buf1 (t : Fin cfg0.N) : Memref sig .tc .vmem S1x2048 .f32 := win0_1.stage (cfg0.slots t 1)
abbrev buf2 (t : Fin cfg0.N) : Memref sig .tc .vmem S1x1x2048 .f32 := win0_2.stage (cfg0.slots t 2)
abbrev buf3 (t : Fin cfg0.N) : Memref sig .tc .vmem S1x1x2048 .f32 := win0_3.stage (cfg0.slots t 3)
abbrev buf4 (t : Fin cfg0.N) : Memref sig .tc .vmem S2048x512 .f32 := win0_4.stage (cfg0.slots t 4)
abbrev buf5 (t : Fin cfg0.N) : Memref sig .tc .vmem S1024x512 .f32 := win0_5.stage (cfg0.slots t 5)

theorem rest_eq (c : Dev nD) :
    (Pipeline.ΦA spec0 c : sProp 𝕄) = iprop((∃ d, owns (c : Thread nD τ) scr8 fullShare d) ∗ (∃ r, prngReg c r)) := by
  unfold Pipeline.ΦA; rw [scopedRest0_eq]; simp only [scr8, owns_whole]; try rfl

/-- Point `t`'s block of weights, with zeros in the columns past the array's end. -/
def weights (c : Dev nD) (t : Fin cfg0.N) : Vec F S2048x512 .f32 := win0_4.fill (grid0.coords t) (fun _ => FloatOps.ofBits (F := F) .f32 0x00000000#32) (iblk m c 4 t)

/-- The block's normalised, modulated rows at point `t`. -/
def rowsAt (c : Dev nD) (t : Fin cfg0.N) : Vec F S1024x2048 .bf16 := k0_pay1 (F := F) (iblk m c 0 t) (iblk m c 1 t) (iblk m c 2 t) (iblk m c 3 t)

/-- The result's block at point `t`. -/
def outAt (c : Dev nD) (t : Fin cfg0.N) : Vec F S1024x512 .f32 := k0_pay2 (F := F) (rowsAt m c t) (weights m c t)

/-- The data: each operand's buffer holds its block after the body, the result's holds `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => weights m c t
    | ⟨5, _⟩ => outAt m c t
  Φ t := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]; try rfl
theorem after1 (c : Dev nD) (t : Fin cfg0.N) : (dats m 0 c).after 1 t = iblk m c 1 t := by dsimp only [dats]; try rfl
theorem after2 (c : Dev nD) (t : Fin cfg0.N) : (dats m 0 c).after 2 t = iblk m c 2 t := by dsimp only [dats]; try rfl
theorem after3 (c : Dev nD) (t : Fin cfg0.N) : (dats m 0 c).after 3 t = iblk m c 3 t := by dsimp only [dats]; try rfl
theorem after4 (c : Dev nD) (t : Fin cfg0.N) : (dats m 0 c).after 4 t = weights m c t := by dsimp only [dats]; try rfl
theorem after5 (c : Dev nD) (t : Fin cfg0.N) : (dats m 0 c).after 5 t = outAt m c t := by dsimp only [dats]; try rfl

/-! What each operand's buffer holds when the body runs. -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = win0_4.fill (grid0.coords t) d (iblk m c 4 t) := by
  unfold Dat.before; rw [if_pos (fetch0_4 t)]; unfold Dat.fetched Dat.blockOf iblk; rw [A_eq m c 4]; try rfl

/-- Nothing is said of the result's block here. -/
def silent : Fin cfg0.W → Bool := fun w => decide (w.val = 5)

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (buf0 t) fullShare ((dats m 0 c).before 0 t d)) ∗ (∃ d, owns (c : Thread nD τ) (buf1 t) fullShare ((dats m 0 c).before 1 t d)) ∗ (∃ d, owns (c : Thread nD τ) (buf2 t) fullShare ((dats m 0 c).before 2 t d)) ∗ (∃ d, owns (c : Thread nD τ) (buf3 t) fullShare ((dats m 0 c).before 3 t d)) ∗ (∃ d, owns (c : Thread nD τ) (buf4 t) fullShare ((dats m 0 c).before 4 t d)) ∗ (∃ X, owns (c : Thread nD τ) (buf5 t) fullShare X))
def bodyPost (c : Dev nD) (t : Fin cfg0.N) : sProp 𝕄 :=
  iprop((dats m 0 c).Φ t.succ ∗ (dats m 0 c).owesAt () t.succ ∗ owns (c : Thread nD τ) (buf0 t) fullShare ((dats m 0 c).after 0 t) ∗ owns (c : Thread nD τ) (buf1 t) fullShare ((dats m 0 c).after 1 t) ∗ owns (c : Thread nD τ) (buf2 t) fullShare ((dats m 0 c).after 2 t) ∗ owns (c : Thread nD τ) (buf3 t) fullShare ((dats m 0 c).after 3 t) ∗ (∃ d, owns (c : Thread nD τ) (buf4 t) fullShare (win0_4.fill (grid0.coords t) d (win0_4.cut (grid0.coords t) ((dats m 0 c).after 4 t)))) ∗ (∃ X, owns (c : Thread nD τ) (buf5 t) fullShare X))

set_option maxHeartbeats 6400000 in
/-- The body at any point, whatever the buffer of normalised rows holds. -/
theorem body_at (c : Dev nD) (t : Fin cfg0.N) :
    bodyPre m c t ⊢ wp frame (wpE (defs₀ (F := F)) Variants.none c none) Set.univ
      (cc0_norm_mod_matmul (grid0.coords t) (buf0 t) (hstage0_0 ((cfg0.slots t 0).cast nbuf0_0)) (buf1 t) (hstage0_1 ((cfg0.slots t 1).cast nbuf0_1)) (buf2 t) (hstage0_2 ((cfg0.slots t 2).cast nbuf0_2)) (buf3 t) (hstage0_3 ((cfg0.slots t 3).cast nbuf0_3)) (buf4 t) (hstage0_4 ((cfg0.slots t 4).cast nbuf0_4)) (buf5 t) (hstage0_5 ((cfg0.slots t 5).cast nbuf0_5)) scr8 (Memref.isWhole_whole _))
      (fun _ => bodyPost m c t) := by
  unfold bodyPre bodyPost
  simp only [before0, before1, before2, before3, before4]
  rw [show (dats m 0 c).owesAt () t.succ = (dats m 0 c).owesAt () t.castSucc from rfl, after0, after1, after2, after3, after4]
  rw [show (dats m 0 c).Φ t.succ = Pipeline.ΦA spec0 c from rfl, show (dats m 0 c).Φ t.castSucc = Pipeline.ΦA spec0 c from rfl, rest_eq]
  by_cases h : First (grid0.coords t)
  · iintro ⟨⟨H8, Hg⟩, Ho, ⟨%d0, H0⟩, ⟨%d1, H1⟩, ⟨%d2, H2⟩, ⟨%d3, H3⟩, ⟨%d4, H4⟩, ⟨%d5, H5⟩⟩
    iapply ((runFill c (grid0.coords t) _ _ _ _ _ _ _ _ _ _ _ _ _ _ (iblk m c 0 t) (iblk m c 1 t) (iblk m c 2 t) (iblk m c 3 t) (win0_4.fill (grid0.coords t) d4 (iblk m c 4 t)) h).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H8]; · iexact H8
    iintro ⟨H0, H1, H2, H3, H4, ⟨%e5, H5⟩, ⟨%e8, H8⟩⟩
    isplitl [H8 Hg]
    · isplitl [H8]
      · unfold owns; iexists _; iexists _; isplitr
        swap; · iexact H8
        ipureintro; rfl
      iexact Hg
    isplitl [Ho]; · iexact Ho
    isplitl [H0]; · iexact H0
    isplitl [H1]; · iexact H1
    isplitl [H2]; · iexact H2
    isplitl [H3]; · iexact H3
    isplitl [H4]
    · iexists d4
      rw [show win0_4.cut (grid0.coords t) (weights m c t) = iblk m c 4 t from win0_4.cut_fill _ _ _]
      iexact H4
    unfold owns; iexists _; iexists _; isplitr
    swap; · iexact H5
    ipureintro; rfl
  · iintro ⟨⟨⟨%s8, H8⟩, Hg⟩, Ho, ⟨%d0, H0⟩, ⟨%d1, H1⟩, ⟨%d2, H2⟩, ⟨%d3, H3⟩, ⟨%d4, H4⟩, ⟨%d5, H5⟩⟩
    iapply ((runReuse c (grid0.coords t) _ _ _ _ _ _ _ _ _ _ _ _ _ _ (iblk m c 0 t) (iblk m c 1 t) (iblk m c 2 t) (iblk m c 3 t) (win0_4.fill (grid0.coords t) d4 (iblk m c 4 t)) s8 h).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H8]; · iexact H8
    iintro ⟨H0, H1, H2, H3, H4, ⟨%e5, H5⟩, H8⟩
    isplitl [H8 Hg]
    · isplitl [H8]; · iexists _; iexact H8
      iexact Hg
    isplitl [Ho]; · iexact Ho
    isplitl [H0]; · iexact H0
    isplitl [H1]; · iexact H1
    isplitl [H2]; · iexact H2
    isplitl [H3]; · iexact H3
    isplitl [H4]
    · iexists d4
      rw [show win0_4.cut (grid0.coords t) (weights m c t) = iblk m c 4 t from win0_4.cut_fill _ _ _]
      iexact H4
    unfold owns; iexists _; iexists _; isplitr
    swap; · iexact H5
    ipureintro; rfl

theorem body_row (t : Fin cfg0.N) : defs₀ (F := F) .tc cfg0.body (cfg0.bodyArgs t (cfg0.slots t))
      = cc0_norm_mod_matmul (grid0.coords t) (buf0 t) (hstage0_0 ((cfg0.slots t 0).cast nbuf0_0)) (buf1 t) (hstage0_1 ((cfg0.slots t 1).cast nbuf0_1)) (buf2 t) (hstage0_2 ((cfg0.slots t 2).cast nbuf0_2)) (buf3 t) (hstage0_3 ((cfg0.slots t 3).cast nbuf0_3)) (buf4 t) (hstage0_4 ((cfg0.slots t 4).cast nbuf0_4)) (buf5 t) (hstage0_5 ((cfg0.slots t 5).cast nbuf0_5)) scr8 (Memref.isWhole_whole _) := by
  unfold defs₀; rw [Defs.onTc_tc]

/-- The body meets the pipeline's obligation at every point, nothing said of the result. -/
theorem body_obligation (c : Dev nD) : BodyObligationLoose (dats (F := F) m 0 c) (defs₀ (F := F)) Variants.none () Set.univ silent := fun t => by
  rw [bigSep_W0, bigSep_W0, body_row]
  exact triple_restated (body_at m c t) rfl .rfl fun _ => .rfl

-- the launch theorem's implicit arguments are found by unfolding definitions in a metavariable's type
set_option backward.isDefEq.respectTransparency.types false in
/-- The program runs to its end from any memory; every operand's array ends as it was, and every counter at zero. -/
theorem run_counters : θ_run defs (onTc (τ := τ) (main (F := F))) (s₀ m ρ)
    (fun r => Pipeline.RDat.FramePost cfg0 (fun c => (dats m 0 c).toRForget silent) (V m) r ∧ r.2.sem = fun _ => 0) :=
  Pipeline.θ_run_frame_forget_shared (Q' := _) cfgs (dats m) (0 : Fin 1) launch₀0 defs₀ Variants.none silent m ρ main
    (hbody := body_obligation m) (hq := fun _ _ _ => rfl)
    (howed := fun _ _ => rfl) (V := V m) (hmain := hmain m Variants.none) (hA := A_eq m) (hΦ := fun _ _ => rfl)

/-- The frame: the program runs, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (Pipeline.RDat.FramePost.arr_in h.1 c 4 rfl).trans ((A_eq m c 4).trans (V_main_arg5 m c))⟩, h.2⟩) (run_counters m ρ)

end Cert.Kernel3.InProjection

end
-- ==== Proof.InFrameIdeal.lean ====
/- The input projection over the reals: what it leaves at every point, its run and its frame. -/
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.Claim

@[expose] public section

set_option maxRecDepth 16384

noncomputable section

namespace Cert.Kernel3Ideal.InProjection

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.Kernel3Ideal.Gen

variable {F : FTy → Type} [FloatOps F]

local notation "𝕄" => MT nD τ sig Unit (Elt F) ℕ (UR sig nD τ) ℕ

/-- The body's branch: the rows are normalised and modulated at the first block of columns. -/
abbrev First (i : grid0.Coords) : Prop :=
  (Scalar.cmpi .ne (Scalar.extui (Scalar.cmpi .eq (BitVec.ofNat 32 (i 1).val) 0#32)) 0#32) = 1#1

set_option maxHeartbeats 1000000 in
/-- The body at the first block of columns: on the operands' buffers at their contents it runs to the continuation with the operands as
    they were, and with the stores it made, into the result's block (`L7`) and the normalised rows (`L8`), found by running it. -/
noncomputable def runFill (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x1x2048 .f32) (harg4 : arg4.IsWhole) (arg5 : Memref sig .tc .vmem S1x1x2048 .f32) (harg5 : arg5.IsWhole)
    (arg6 : Memref sig .tc .vmem S2048x512 .f32) (harg6 : arg6.IsWhole) (arg7 : Memref sig .tc .vmem S1024x512 .f32) (harg7 : arg7.IsWhole)
    (arg8 : Memref sig .tc .vmem S1024x2048 .bf16) (harg8 : arg8.IsWhole)
    (x0 : Vec F S1024x2048 .f32) (x1 : Vec F S1x2048 .f32) (x2 : Vec F S1x1x2048 .f32) (x3 : Vec F S1x1x2048 .f32) (x4 : Vec F S2048x512 .f32)
    (hc : First i) :
    Σ' (L7 : List (View.Piece (Elt F) S1024x512 .f32)), { L8 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)) -∗ K ⟨⟩))
          ⊢ wp frame (wpE (defs₀ (F := F)) Variants.none c none) E (cc0_norm_mod_matmul i arg2 harg2 arg3 harg3 arg4 harg4 arg5 harg5 arg6 harg6 arg7 harg7 arg8 harg8) K } := by
  refine ⟨?_, ?_, fun E K => ?run⟩
  case run =>
    simp only [cc0_norm_mod_matmul_eq_skeleton]; unfold cc0_norm_mod_matmul_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    iexists _; iexact H8

set_option maxHeartbeats 1000000 in
/-- The body at a later block of columns: the normalised rows are read as they are and stay; `L7` is what it stores into the result's block. -/
noncomputable def runReuse (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x1x2048 .f32) (harg4 : arg4.IsWhole) (arg5 : Memref sig .tc .vmem S1x1x2048 .f32) (harg5 : arg5.IsWhole)
    (arg6 : Memref sig .tc .vmem S2048x512 .f32) (harg6 : arg6.IsWhole) (arg7 : Memref sig .tc .vmem S1024x512 .f32) (harg7 : arg7.IsWhole)
    (arg8 : Memref sig .tc .vmem S1024x2048 .bf16) (harg8 : arg8.IsWhole)
    (x0 : Vec F S1024x2048 .f32) (x1 : Vec F S1x2048 .f32) (x2 : Vec F S1x1x2048 .f32) (x3 : Vec F S1x1x2048 .f32) (x4 : Vec F S2048x512 .f32)
    (s8 : Vec F S1024x2048 .bf16) (hc : ¬First i) :
    { L7 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare s8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L7) ∗ owns (c : Thread nD τ) arg8 fullShare s8) -∗ K ⟨⟩))
          ⊢ wp frame (wpE (defs₀ (F := F)) Variants.none c none) E (cc0_norm_mod_matmul i arg2 harg2 arg3 harg3 arg4 harg4 arg5 harg5 arg6 harg6 arg7 harg7 arg8 harg8) K } := by
  refine ⟨?_, fun E K => ?run⟩
  case run =>
    simp only [cc0_norm_mod_matmul_eq_skeleton]; unfold cc0_norm_mod_matmul_skel
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hf8
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    iexists _; isplitr; · ipureintro; exact harg8.read_unread _
    iexact H8

section body
variable (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x1x2048 .f32) (harg4 : arg4.IsWhole) (arg5 : Memref sig .tc .vmem S1x1x2048 .f32) (harg5 : arg5.IsWhole)
    (arg6 : Memref sig .tc .vmem S2048x512 .f32) (harg6 : arg6.IsWhole) (arg7 : Memref sig .tc .vmem S1024x512 .f32) (harg7 : arg7.IsWhole)
    (arg8 : Memref sig .tc .vmem S1024x2048 .bf16) (harg8 : arg8.IsWhole)
    (x0 : Vec F S1024x2048 .f32) (x1 : Vec F S1x2048 .f32) (x2 : Vec F S1x1x2048 .f32) (x3 : Vec F S1x1x2048 .f32) (x4 : Vec F S2048x512 .f32)

/-- At the first block of columns the buffer of normalised rows ends at the rows, -/
theorem fill_rows (hc : First i) {κ : Kind} {sp : Space} (v : View sig κ sp S1024x2048 .bf16) (f : v.ty.Contents (Elt F)) :
    v.read (Elt F) (v.writes (Elt F) f (runFill c i arg2 harg2 arg3 harg3 arg4 harg4 arg5 harg5 arg6 harg6 arg7 harg7 arg8 harg8 x0 x1 x2 x3 x4 hc).2.1) = k0_pay1 x0 x1 x2 x3 := by
  rw [View.read_writes_eq_canon v f _ (fun y => View.cover_of_tiledL _ S1024x2048.size (by sl_kernel_rfl) y)]
  frame_out [runFill]

/-- and the result's block at the product of those rows with the block of weights. -/
theorem fill_block (hc : First i) {κ : Kind} {sp : Space} (v : View sig κ sp S1024x512 .f32) (f : v.ty.Contents (Elt F)) :
    v.read (Elt F) (v.writes (Elt F) f (runFill c i arg2 harg2 arg3 harg3 arg4 harg4 arg5 harg5 arg6 harg6 arg7 harg7 arg8 harg8 x0 x1 x2 x3 x4 hc).1) = k0_pay2 (k0_pay1 x0 x1 x2 x3) x4 := by
  rw [View.read_writes_eq_canon v f _ (fun y => View.cover_of_tiledL _ S1024x512.size (by sl_kernel_rfl) y)]
  frame_out [runFill]

/-- At a later block of columns the result's block is the product of the rows found with the block of weights. -/
theorem reuse_block (s8 : Vec F S1024x2048 .bf16) (hc : ¬First i) {κ : Kind} {sp : Space} (v : View sig κ sp S1024x512 .f32) (f : v.ty.Contents (Elt F)) :
    v.read (Elt F) (v.writes (Elt F) f (runReuse c i arg2 harg2 arg3 harg3 arg4 harg4 arg5 harg5 arg6 harg6 arg7 harg7 arg8 harg8 x0 x1 x2 x3 x4 s8 hc).1) = k0_pay2 s8 x4 := by
  rw [View.read_writes_eq_canon v f _ (fun y => View.cover_of_tiledL _ S1024x512.size (by sl_kernel_rfl) y)]
  frame_out [runReuse]

end body

/-- The buffer of normalised rows, and each window's current buffer at point `t`. -/
abbrev scr8 : Memref sig .tc .vmem S1024x2048 .bf16 := Memref.whole cc0_scratch0
abbrev buf0 (t : Fin cfg0.N) : Memref sig .tc .vmem S1024x2048 .f32 := win0_0.stage (cfg0.slots t 0)
abbrev buf1 (t : Fin cfg0.N) : Memref sig .tc .vmem S1x2048 .f32 := win0_1.stage (cfg0.slots t 1)
abbrev buf2 (t : Fin cfg0.N) : Memref sig .tc .vmem S1x1x2048 .f32 := win0_2.stage (cfg0.slots t 2)
abbrev buf3 (t : Fin cfg0.N) : Memref sig .tc .vmem S1x1x2048 .f32 := win0_3.stage (cfg0.slots t 3)
abbrev buf4 (t : Fin cfg0.N) : Memref sig .tc .vmem S2048x512 .f32 := win0_4.stage (cfg0.slots t 4)
abbrev buf5 (t : Fin cfg0.N) : Memref sig .tc .vmem S1024x512 .f32 := win0_5.stage (cfg0.slots t 5)

theorem rest_eq (c : Dev nD) :
    (Pipeline.ΦA spec0 c : sProp 𝕄) = iprop((∃ d, owns (c : Thread nD τ) scr8 fullShare d) ∗ (∃ r, prngReg c r)) := by
  unfold Pipeline.ΦA; rw [scopedRest0_eq]; simp only [scr8, owns_whole]; try rfl

variable (m : (ℓ : Loc nD τ sig) → Buf (Elt Ideal) ℓ) (ρ : Dev nD → PrngReg)

local notation "𝕀" => MT nD τ sig Unit (Elt Ideal) ℕ (UR sig nD τ) ℕ

/-- Point `t`'s block of weights, with zeros in the columns past the array's end. -/
def weights (c : Dev nD) (t : Fin cfg0.N) : Vec Ideal S2048x512 .f32 := win0_4.fill (grid0.coords t) (fun _ => FloatOps.ofBits (F := Ideal) .f32 0x00000000#32) (iblk m c 4 t)

/-- The block's normalised, modulated rows at point `t`. -/
def rowsAt (c : Dev nD) (t : Fin cfg0.N) : Vec Ideal S1024x2048 .bf16 := k0_pay1 (F := Ideal) (iblk m c 0 t) (iblk m c 1 t) (iblk m c 2 t) (iblk m c 3 t)

/-- The result's block at point `t`. -/
def outAt (c : Dev nD) (t : Fin cfg0.N) : Vec Ideal S1024x512 .f32 := k0_pay2 (F := Ideal) (rowsAt m c t) (weights m c t)

/-- What is held between points: before the first the buffer of normalised rows is anything, after point `n` it holds that point's rows. -/
def held (c : Dev nD) : (n : ℕ) → n ≤ cfg0.N → sProp 𝕀
  | 0, _ => Pipeline.ΦA spec0 c
  | n + 1, hn => iprop(owns (c : Thread nD τ) scr8 fullShare (rowsAt m c ⟨n, hn⟩) ∗ (∃ r, prngReg c r))

theorem held_zero (c : Dev nD) (n : ℕ) (h : n ≤ cfg0.N) (hz : n = 0) : held m c n h = Pipeline.ΦA spec0 c := by
  subst hz; rfl

theorem held_succ (c : Dev nD) (t : Fin cfg0.N) (n : ℕ) (h : n ≤ cfg0.N) (hn : n = t.val + 1) :
    held m c n h = iprop(owns (c : Thread nD τ) scr8 fullShare (rowsAt m c t) ∗ (∃ r, prngReg c r)) := by
  subst hn; rfl

/-- The data: each operand's buffer holds its block after the body, the result's holds `outAt`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => weights m c t
    | ⟨5, _⟩ => outAt m c t
  Φ t := held m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]; try rfl
theorem after1 (c : Dev nD) (t : Fin cfg0.N) : (dats m 0 c).after 1 t = iblk m c 1 t := by dsimp only [dats]; try rfl
theorem after2 (c : Dev nD) (t : Fin cfg0.N) : (dats m 0 c).after 2 t = iblk m c 2 t := by dsimp only [dats]; try rfl
theorem after3 (c : Dev nD) (t : Fin cfg0.N) : (dats m 0 c).after 3 t = iblk m c 3 t := by dsimp only [dats]; try rfl
theorem after4 (c : Dev nD) (t : Fin cfg0.N) : (dats m 0 c).after 4 t = weights m c t := by dsimp only [dats]; try rfl
theorem after5 (c : Dev nD) (t : Fin cfg0.N) : (dats m 0 c).after 5 t = outAt m c t := by dsimp only [dats]; try rfl

/-! What each operand's buffer holds when the body runs. -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = win0_4.fill (grid0.coords t) d (iblk m c 4 t) := by
  unfold Dat.before; rw [if_pos (fetch0_4 t)]; unfold Dat.fetched Dat.blockOf iblk; rw [A_eq m c 4]; try rfl

theorem held_castSucc (c : Dev nD) (t : Fin cfg0.N) : (dats m 0 c).Φ t.castSucc = held m c t.val (Nat.le_of_lt t.isLt) := by
  dsimp only [dats]; exact Pipeline.Dat.Φ_castSucc (held m c) t

/-- The modulation's row at a grid point: the context's or the batch member's. -/
def seg (t : ℕ) : ℕ := if t / 15 < 4 then 0 else 1 + (t / 15 - 4) / 2

/-- Every window's block index at a grid point. -/
theorem idx : ∀ t : Fin cfg0.N, win0_0.index t = ![t.val / 15, 0] ∧ win0_1.index t = ![0, 0]
    ∧ win0_2.index t = ![seg t.val, 0, 0] ∧ win0_3.index t = ![seg t.val, 0, 1]
    ∧ win0_4.index t = ![0, t.val % 15] ∧ win0_5.index t = ![t.val / 15, t.val % 15] :=
  (by decide +kernel : ∀ t : Fin grid0.N, _)

/-- The branch is taken exactly where the block of columns is the first. -/
theorem first_iff : ∀ t : Fin cfg0.N, First (grid0.coords t) ↔ t.val % 15 = 0 :=
  (by decide +kernel : ∀ t : Fin grid0.N, _)

theorem fetched0 (c : Dev nD) (t : Fin cfg0.N) (d) : (dats m 0 c).fetched 0 t d = iblk m c 0 t := by
  unfold Dat.fetched Dat.blockOf iblk; rw [A_eq m c 0]; try rfl
theorem fetched1 (c : Dev nD) (t : Fin cfg0.N) (d) : (dats m 0 c).fetched 1 t d = iblk m c 1 t := by
  unfold Dat.fetched Dat.blockOf iblk; rw [A_eq m c 1]; try rfl
theorem fetched2 (c : Dev nD) (t : Fin cfg0.N) (d) : (dats m 0 c).fetched 2 t d = iblk m c 2 t := by
  unfold Dat.fetched Dat.blockOf iblk; rw [A_eq m c 2]; try rfl
theorem fetched3 (c : Dev nD) (t : Fin cfg0.N) (d) : (dats m 0 c).fetched 3 t d = iblk m c 3 t := by
  unfold Dat.fetched Dat.blockOf iblk; rw [A_eq m c 3]; try rfl

/-- Two points of one block of rows have the same block of operand 0. -/
theorem same0 (c : Dev nD) (t t' : Fin cfg0.N) (h : t.val / 15 = t'.val / 15) : (iblk m c 0 t : Vec Ideal S1024x2048 .f32) = iblk m c 0 t' := by
  have hix : (cfg0.win 0).index t = (cfg0.win 0).index t' := by
    show win0_0.index t = win0_0.index t'
    rw [(idx t).1, (idx t').1]; try simp only [seg, h]
  exact ((fetched0 m c t (fun _ => Classical.arbitrary _)).symm.trans ((dats m 0 c).fetched_congr 0 hix rfl _)).trans
    (fetched0 m c t' (fun _ => Classical.arbitrary _))

/-- Two points of one block of rows have the same block of operand 1. -/
theorem same1 (c : Dev nD) (t t' : Fin cfg0.N) (h : t.val / 15 = t'.val / 15) : (iblk m c 1 t : Vec Ideal S1x2048 .f32) = iblk m c 1 t' := by
  have hix : (cfg0.win 1).index t = (cfg0.win 1).index t' := by
    show win0_1.index t = win0_1.index t'
    rw [(idx t).2.1, (idx t').2.1]; try simp only [seg, h]
  exact ((fetched1 m c t (fun _ => Classical.arbitrary _)).symm.trans ((dats m 0 c).fetched_congr 1 hix rfl _)).trans
    (fetched1 m c t' (fun _ => Classical.arbitrary _))

/-- Two points of one block of rows have the same block of operand 2. -/
theorem same2 (c : Dev nD) (t t' : Fin cfg0.N) (h : t.val / 15 = t'.val / 15) : (iblk m c 2 t : Vec Ideal S1x1x2048 .f32) = iblk m c 2 t' := by
  have hix : (cfg0.win 2).index t = (cfg0.win 2).index t' := by
    show win0_2.index t = win0_2.index t'
    rw [(idx t).2.2.1, (idx t').2.2.1]; try simp only [seg, h]
  exact ((fetched2 m c t (fun _ => Classical.arbitrary _)).symm.trans ((dats m 0 c).fetched_congr 2 hix rfl _)).trans
    (fetched2 m c t' (fun _ => Classical.arbitrary _))

/-- Two points of one block of rows have the same block of operand 3. -/
theorem same3 (c : Dev nD) (t t' : Fin cfg0.N) (h : t.val / 15 = t'.val / 15) : (iblk m c 3 t : Vec Ideal S1x1x2048 .f32) = iblk m c 3 t' := by
  have hix : (cfg0.win 3).index t = (cfg0.win 3).index t' := by
    show win0_3.index t = win0_3.index t'
    rw [(idx t).2.2.2.1, (idx t').2.2.2.1]; try simp only [seg, h]
  exact ((fetched3 m c t (fun _ => Classical.arbitrary _)).symm.trans ((dats m 0 c).fetched_congr 3 hix rfl _)).trans
    (fetched3 m c t' (fun _ => Classical.arbitrary _))

/-- So they have the same rows. -/
theorem same_rows (c : Dev nD) (t t' : Fin cfg0.N) (h : t.val / 15 = t'.val / 15) : rowsAt m c t = rowsAt m c t' := by
  unfold rowsAt; rw [same0 m c t t' h, same1 m c t t' h, same2 m c t t' h, same3 m c t t' h]

/-- The product at an element: a sum over the row and the weights' column there. -/
theorem product (h : FVec Ideal S1024x2048 .bf16) (w : Vec Ideal S2048x512 .f32) (r : Fin 1024) (d : Fin 512) :
    k0_pay2 h w (ix2 r d) = ∑ j, h (ix2 r j) * w (ix2 j d) := by
  pointwise [k0_pay2]

/-- How much of a point's block of weights, and of the result's block, lies inside its array. -/
theorem inside : ∀ t : Fin cfg0.N, win0_4.xsize (grid0.coords t) 0 = 2048 ∧ win0_4.xsize (grid0.coords t) 1 = min 512 (7200 - t.val % 15 * 512)
    ∧ win0_5.xsize (grid0.coords t) 0 = 1024 ∧ win0_5.xsize (grid0.coords t) 1 = min 512 (7200 - t.val % 15 * 512) :=
  (by decide +kernel : ∀ t : Fin grid0.N, _)

/-- The columns of a point's block of weights that lie inside the array are moved. -/
theorem moved_weights (t : Fin cfg0.N) (j : Fin 2048) (d : Fin 512) (h : t.val % 15 * 512 + d < 7200) : win0_4.moved (grid0.coords t) (ix2 j d) = true := by
  rw [win0_4.moved_iff]
  intro a
  match a with
  | ⟨0, _⟩ => exact lt_of_lt_of_eq j.isLt (inside t).1.symm
  | ⟨1, _⟩ => exact lt_of_lt_of_eq (show d.val < min 512 (7200 - t.val % 15 * 512) by have := d.isLt; omega) (inside t).2.1.symm

/-- The columns of the result's block that are moved lie inside the array. -/
theorem moved_inside (t : Fin cfg0.N) (y : (win0_5.xblock (grid0.coords t)).Idx) : t.val % 15 * 512 + (y 1).val < 7200 := by
  have h : (y 1).val < min 512 (7200 - t.val % 15 * 512) := lt_of_lt_of_eq (y 1).isLt (inside t).2.2.2
  omega

/-- A moved element of the result's block, by its row and its column. -/
theorem moved_at (t : Fin cfg0.N) (y : (win0_5.xblock (grid0.coords t)).Idx) :
    ∃ (r : Fin 1024) (d : Fin 512), win0_5.xinj (grid0.coords t) y = ix2 r d ∧ r.val = (y 0).val ∧ d.val = (y 1).val :=
  ⟨win0_5.xinj (grid0.coords t) y 0, win0_5.xinj (grid0.coords t) y 1, eq_ix2 _, rfl, rfl⟩

/-- A block of weights inside the array does not depend on what stands past the array's end. -/
theorem fill_inside (t : Fin cfg0.N) (j : Fin 2048) (d : Fin 512) (h : t.val % 15 * 512 + d < 7200) (e e' : Vec Ideal S2048x512 .f32) (g) :
    win0_4.fill (grid0.coords t) e g (ix2 j d) = win0_4.fill (grid0.coords t) e' g (ix2 j d) := by
  unfold Pipeline.Window.fill
  rw [dif_pos (moved_weights t j d h), dif_pos (moved_weights t j d h)]

/-- What the weights' buffer holds past the array's end does not reach the columns of the result that are written back. -/
theorem cut_block (t : Fin cfg0.N) (h : FVec Ideal S1024x2048 .bf16) (e e' : Vec Ideal S2048x512 .f32) (g) :
    win0_5.cut (grid0.coords t) (k0_pay2 (F := Ideal) h (win0_4.fill (grid0.coords t) e g))
      = win0_5.cut (grid0.coords t) (k0_pay2 (F := Ideal) h (win0_4.fill (grid0.coords t) e' g)) := by
  funext y
  obtain ⟨r, d, hy, -, hd⟩ := moved_at t y
  have hi : t.val % 15 * 512 + d.val < 7200 := by rw [hd]; exact moved_inside t y
  show k0_pay2 (F := Ideal) h _ (win0_5.xinj (grid0.coords t) y) = k0_pay2 (F := Ideal) h _ (win0_5.xinj (grid0.coords t) y)
  rw [hy]
  refine (product _ _ r d).trans ((Finset.sum_congr rfl fun j _ => ?_).trans (product _ _ r d).symm)
  exact congrArg (fun z => @HMul.hMul EReal EReal EReal _ (h (ix2 r j)) z) (fill_inside t j d hi e e' g)

/-- What the body is called with at point `t`, and what it returns. -/
def bodyPre (c : Dev nD) (t : Fin cfg0.N) : sProp 𝕀 :=
  iprop((dats m 0 c).Φ t.castSucc ∗ (dats m 0 c).owesAt () t.castSucc ∗ (∃ d, owns (c : Thread nD τ) (buf0 t) fullShare ((dats m 0 c).before 0 t d)) ∗ (∃ d, owns (c : Thread nD τ) (buf1 t) fullShare ((dats m 0 c).before 1 t d)) ∗ (∃ d, owns (c : Thread nD τ) (buf2 t) fullShare ((dats m 0 c).before 2 t d)) ∗ (∃ d, owns (c : Thread nD τ) (buf3 t) fullShare ((dats m 0 c).before 3 t d)) ∗ (∃ d, owns (c : Thread nD τ) (buf4 t) fullShare ((dats m 0 c).before 4 t d)) ∗ (∃ d, owns (c : Thread nD τ) (buf5 t) fullShare ((dats m 0 c).before 5 t d)))
def bodyPost (c : Dev nD) (t : Fin cfg0.N) : sProp 𝕀 :=
  iprop((dats m 0 c).Φ t.succ ∗ (dats m 0 c).owesAt () t.succ ∗ owns (c : Thread nD τ) (buf0 t) fullShare ((dats m 0 c).after 0 t) ∗ owns (c : Thread nD τ) (buf1 t) fullShare ((dats m 0 c).after 1 t) ∗ owns (c : Thread nD τ) (buf2 t) fullShare ((dats m 0 c).after 2 t) ∗ owns (c : Thread nD τ) (buf3 t) fullShare ((dats m 0 c).after 3 t) ∗ (∃ d, owns (c : Thread nD τ) (buf4 t) fullShare (win0_4.fill (grid0.coords t) d (win0_4.cut (grid0.coords t) ((dats m 0 c).after 4 t)))) ∗ (∃ d, owns (c : Thread nD τ) (buf5 t) fullShare (win0_5.fill (grid0.coords t) d (win0_5.cut (grid0.coords t) ((dats m 0 c).after 5 t)))))

set_option maxHeartbeats 6400000 in
/-- The body at any point: at the first block of columns it computes the rows, whatever their buffer held; at a later one the buffer holds
    the rows of the point before, which are this point's. -/
theorem body_at (c : Dev nD) (t : Fin cfg0.N) :
    bodyPre m c t ⊢ wp frame (wpE (defs₀ (F := Ideal)) Variants.none c none) Set.univ
      (cc0_norm_mod_matmul (grid0.coords t) (buf0 t) (hstage0_0 ((cfg0.slots t 0).cast nbuf0_0)) (buf1 t) (hstage0_1 ((cfg0.slots t 1).cast nbuf0_1)) (buf2 t) (hstage0_2 ((cfg0.slots t 2).cast nbuf0_2)) (buf3 t) (hstage0_3 ((cfg0.slots t 3).cast nbuf0_3)) (buf4 t) (hstage0_4 ((cfg0.slots t 4).cast nbuf0_4)) (buf5 t) (hstage0_5 ((cfg0.slots t 5).cast nbuf0_5)) scr8 (Memref.isWhole_whole _))
      (fun _ => bodyPost m c t) := by
  unfold bodyPre bodyPost
  simp only [before0, before1, before2, before3, before4]
  rw [show (dats m 0 c).owesAt () t.succ = (dats m 0 c).owesAt () t.castSucc from rfl, after0, after1, after2, after3, after4, after5]
  rw [show (dats m 0 c).Φ t.succ = held m c (t.val + 1) t.isLt from rfl, held_succ m c t _ _ rfl, held_castSucc m c t]
  by_cases h : First (grid0.coords t)
  · have weaken : held m c t.val (Nat.le_of_lt t.isLt) ⊢ iprop((∃ d, owns (c : Thread nD τ) scr8 fullShare d) ∗ (∃ r, prngReg c r)) := by
      by_cases hz : t.val = 0
      · rw [held_zero m c _ _ hz, rest_eq]
      · rw [held_succ m c ⟨t.val - 1, by omega⟩ _ _ (by simp; omega)]
        iintro ⟨H8, Hg⟩
        isplitl [H8]
        · iexists _; iexact H8
        iexact Hg
    refine (sep_mono weaken .rfl).trans ?_
    iintro ⟨⟨H8, Hg⟩, Ho, ⟨%d0, H0⟩, ⟨%d1, H1⟩, ⟨%d2, H2⟩, ⟨%d3, H3⟩, ⟨%d4, H4⟩, ⟨%d5, H5⟩⟩
    iapply ((runFill c (grid0.coords t) _ _ _ _ _ _ _ _ _ _ _ _ _ _ (iblk m c 0 t) (iblk m c 1 t) (iblk m c 2 t) (iblk m c 3 t) (win0_4.fill (grid0.coords t) d4 (iblk m c 4 t)) h).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H8]; · iexact H8
    iintro ⟨H0, H1, H2, H3, H4, ⟨%e5, H5⟩, ⟨%e8, H8⟩⟩
    isplitl [H8 Hg]
    · isplitl [H8]
      · unfold owns; iexists _; isplitr
        swap; · iexact H8
        ipureintro; exact fill_rows c _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]
    · iexists d4
      rw [show win0_4.cut (grid0.coords t) (weights m c t) = iblk m c 4 t from win0_4.cut_fill _ _ _]
      iexact H4
    unfold owns; iexists _; iexists _; isplitr
    swap; · iexact H5
    ipureintro
    refine (fill_block c _ _ _ _ _ _ _ _ _ _ _ _ _ _ _ _ _ _ _ _ _ _ _).trans ?_
    exact (win0_5.fill_congr_cut (grid0.coords t) (cut_block t (rowsAt m c t) d4 _ (iblk m c 4 t))).symm
  · have hz : t.val % 15 ≠ 0 := fun hz => h ((first_iff t).mpr hz)
    have hb : t.val - 1 < cfg0.N := by omega
    rw [held_succ m c ⟨t.val - 1, hb⟩ t.val (Nat.le_of_lt t.isLt) (by show t.val = t.val - 1 + 1; omega)]
    rw [same_rows m c ⟨t.val - 1, hb⟩ t (by show (t.val - 1) / 15 = t.val / 15; omega)]
    iintro ⟨⟨H8, Hg⟩, Ho, ⟨%d0, H0⟩, ⟨%d1, H1⟩, ⟨%d2, H2⟩, ⟨%d3, H3⟩, ⟨%d4, H4⟩, ⟨%d5, H5⟩⟩
    iapply ((runReuse c (grid0.coords t) _ _ _ _ _ _ _ _ _ _ _ _ _ _ (iblk m c 0 t) (iblk m c 1 t) (iblk m c 2 t) (iblk m c 3 t) (win0_4.fill (grid0.coords t) d4 (iblk m c 4 t)) (rowsAt m c t) h).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H8]; · iexact H8
    iintro ⟨H0, H1, H2, H3, H4, ⟨%e5, H5⟩, H8⟩
    isplitl [H8 Hg]
    · isplitl [H8]; · iexact H8
      iexact Hg
    isplitl [Ho]; · iexact Ho
    isplitl [H0]; · iexact H0
    isplitl [H1]; · iexact H1
    isplitl [H2]; · iexact H2
    isplitl [H3]; · iexact H3
    isplitl [H4]
    · iexists d4
      rw [show win0_4.cut (grid0.coords t) (weights m c t) = iblk m c 4 t from win0_4.cut_fill _ _ _]
      iexact H4
    unfold owns; iexists _; iexists _; isplitr
    swap; · iexact H5
    ipureintro
    refine (reuse_block c _ _ _ _ _ _ _ _ _ _ _ _ _ _ _ _ _ _ _ _ _ _ _ _).trans ?_
    exact (win0_5.fill_congr_cut (grid0.coords t) (cut_block t (rowsAt m c t) d4 _ (iblk m c 4 t))).symm

theorem body_row (t : Fin cfg0.N) : defs₀ (F := Ideal) .tc cfg0.body (cfg0.bodyArgs t (cfg0.slots t))
      = cc0_norm_mod_matmul (grid0.coords t) (buf0 t) (hstage0_0 ((cfg0.slots t 0).cast nbuf0_0)) (buf1 t) (hstage0_1 ((cfg0.slots t 1).cast nbuf0_1)) (buf2 t) (hstage0_2 ((cfg0.slots t 2).cast nbuf0_2)) (buf3 t) (hstage0_3 ((cfg0.slots t 3).cast nbuf0_3)) (buf4 t) (hstage0_4 ((cfg0.slots t 4).cast nbuf0_4)) (buf5 t) (hstage0_5 ((cfg0.slots t 5).cast nbuf0_5)) scr8 (Memref.isWhole_whole _) := by
  unfold defs₀; rw [Defs.onTc_tc]

/-- The body meets the pipeline's obligation at every point. -/
theorem body_obligation (c : Dev nD) : BodyObligationLoose (dats m 0 c) (defs₀ (F := Ideal)) Variants.none () Set.univ := fun t => by
  rw [bigSep_W0, bigSep_W0, body_row]
  exact triple_restated (body_at m c t) rfl .rfl fun _ => .rfl

theorem hin (c : Dev nD) : (Pipeline.ΦA spec0 c : sProp 𝕀) ⊢ (dats m 0 c).Φ 0 := by
  rw [show (dats m 0 c).Φ 0 = held m c 0 (Nat.zero_le _) from rfl, held_zero m c 0 _ rfl]
  try exact Idealize.SL.BI.Entails.refl _

theorem hout (c : Dev nD) : (dats m 0 c).Φ (Fin.last cfg0.N) ⊢ (Pipeline.ΦA spec0 c : sProp 𝕀) := by
  have hN : cfg0.N = 540 := N_0
  rw [show (dats m 0 c).Φ (Fin.last cfg0.N) = held m c cfg0.N (le_refl _) from rfl,
    held_succ m c ⟨539, by omega⟩ _ _ (by show cfg0.N = 539 + 1; omega), rest_eq]
  iintro ⟨H8, Hg⟩
  isplitl [H8]
  · iexists _; iexact H8
  iexact Hg

-- the launch theorem's implicit arguments are found by unfolding definitions in a metavariable's type
set_option backward.isDefEq.respectTransparency.types false in
/-- The program runs to its end from any memory; every array of the call ends as the data say, and every counter at zero. -/
theorem run_counters : θ_run defs (onTc (τ := τ) (main (F := Ideal))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := body_obligation m) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := Ideal))) (s₀ m ρ) (Pipeline.FramePost cfgs (dats m) 0 (V m)) :=
  (θ_run defs _ _).mono (fun _ h => h.1) (run_counters m ρ)

/-- The frame: the program runs, leaves its arguments as they were and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) ∧ r.2.sem = fun _ => 0) :=
  θ_run_and (frame_of m ρ (dats m) (A_eq m) (run_main m ρ)) ((θ_run defs _ _).mono (fun _ h => h.2) (run_counters m ρ))

end Cert.Kernel3Ideal.InProjection

end
-- ==== Proof.InRead.lean ====
/- The reference of the input projection read at a row of the stream and a column, in terms of the argument arrays. -/
module

public import proofs.«01_k».proof.Proof.Gen.Reference3Ideal.Read
public import Idealize.ShloMosaic.Lib.Pointwise

@[expose] public section

set_option maxRecDepth 16384

noncomputable section

open Idealize.ShloMosaic Idealize.ShloMosaic.TcCoe Idealize.SL.Sem

namespace Cert.Reference3Ideal.InProjection

open Cert.Reference3Ideal Cert.Reference3Ideal.Gen Cert.Reference3Ideal.Read

/-- A row `x` divided by its root mean square and multiplied by the norm's weights `w`, at a feature. -/
def normed (x w : Fin 2048 → EReal) (d : Fin 2048) : EReal :=
  x d * Ideal.rsqrt (Ideal.div (∑ j, x j * x j) (Ideal.ofBits .f32 0x45000000#32) + Ideal.ofBits .f32 0x358637BD#32) * w d

/-- That row scaled by `1 + scale` and shifted, at a feature. -/
def modulated (x w shift scale : Fin 2048 → EReal) (d : Fin 2048) : EReal := normed x w d * (1 + scale d) + shift d

variable (x0 : (⟨S16x256x2048, .f32⟩ : BufTy).Contents (Elt Ideal)) (x1 : (⟨S16x2048x2048, .f32⟩ : BufTy).Contents (Elt Ideal))
  (x2 : (⟨S12288, .f32⟩ : BufTy).Contents (Elt Ideal)) (x3 : (⟨S16x12288, .f32⟩ : BufTy).Contents (Elt Ideal))
  (x4 : (⟨S2048, .f32⟩ : BufTy).Contents (Elt Ideal)) (x5 : (⟨S2048x7200, .f32⟩ : BufTy).Contents (Elt Ideal))

/-- A context row, normalised and modulated. -/
theorem v51_apply (b : Fin 16) (r : Fin 256) (d : Fin 2048) : val_main_v51 x0 x2 x4 (ix3 b r d)
    = modulated (fun j => x0 (ix3 b r j)) (fun j => x4 (ix1 j)) (fun j => x2 (ix1 ⟨j, by omega⟩)) (fun j => x2 (ix1 ⟨2048 + j, by omega⟩)) d := by
  pointwise [val_main_v51, val_main_v50, val_main_v49, val_main_v48, val_main_v47, val_main_v46, val_main_cst_6, val_main_v45, val_main_v44, val_main_v43,
    val_main_v42, val_main_v41, val_main_v40, val_main_v39, val_main_v38, val_main_cst_5, val_main_v37, val_main_v36, val_main_cst_4, val_main_v35,
    val_main_v34, val_main_v33, val_main_v7, val_main_v8, val_main_v9, modulated, normed]
  rw [show val_main_cst_3 (F := Ideal) (Shape.Idx.first h_S_) = (0 : EReal) from Ideal.ofBits_zero_f32, zero_add]

/-- A latent row, normalised and modulated. -/
theorem v32_apply (b : Fin 16) (r : Fin 2048) (d : Fin 2048) : val_main_v32 x1 x3 x4 (ix3 b r d)
    = modulated (fun j => x1 (ix3 b r j)) (fun j => x4 (ix1 j)) (fun j => x3 (ix2 b ⟨j, by omega⟩)) (fun j => x3 (ix2 b ⟨2048 + j, by omega⟩)) d := by
  pointwise [val_main_v32, val_main_v31, val_main_v30, val_main_v29, val_main_v28, val_main_v27, val_main_cst_2, val_main_v26, val_main_v25, val_main_v24,
    val_main_v23, val_main_v22, val_main_v21, val_main_v20, val_main_v19, val_main_cst_1, val_main_v18, val_main_v17, val_main_cst_0, val_main_v16,
    val_main_v15, val_main_v14, val_main_v0, val_main_v1, val_main_v2, modulated, normed]
  rw [show val_main_cst (F := Ideal) (Shape.Idx.first h_S_) = (0 : EReal) from Ideal.ofBits_zero_f32, zero_add]

/-- The context's and the latents' rows of a batch member, one after the other. -/
theorem v52_apply (b : Fin 16) (k : Fin 2304) (j : Fin 2048) : val_main_v52 x0 x1 x2 x3 x4 (ix3 b k j)
    = if hk : (k : ℕ) < 256 then val_main_v51 x0 x2 x4 (ix3 b ⟨k, hk⟩ j) else val_main_v32 x1 x3 x4 (ix3 b ⟨k - 256, by omega⟩ j) := by
  pointwise [val_main_v52]

/-- The product at a context row, -/
theorem v54_apply (b : Fin 16) (r : Fin 256) (e : Fin 7200) : val_main_v54 x0 x1 x2 x3 x4 x5 (ix3 b r e)
    = ∑ d, @HMul.hMul EReal EReal EReal _ (val_main_v51 x0 x2 x4 (ix3 b r d)) (x5 (ix2 d e)) := by
  pointwise [val_main_v54, val_main_v53, v52_apply]

/-- and at a latent row. -/
theorem v55_apply (b : Fin 16) (r : Fin 2048) (e : Fin 7200) : val_main_v55 x0 x1 x2 x3 x4 x5 (ix3 b r e)
    = ∑ d, @HMul.hMul EReal EReal EReal _ (val_main_v32 x1 x3 x4 (ix3 b r d)) (x5 (ix2 d e)) := by
  pointwise [val_main_v55, val_main_v53, v52_apply]

/-- The result at a row of the context's part, -/
theorem v58_context (p : Fin 36864) (h : (p : ℕ) < 4096) (e : Fin 7200) : val_main_v58 x0 x1 x2 x3 x4 x5 (ix2 p e)
    = ∑ d, @HMul.hMul EReal EReal EReal _ (modulated (fun j => x0 (ix3 ⟨p / 256, by omega⟩ ⟨p % 256, by omega⟩ j)) (fun j => x4 (ix1 j)) (fun j => x2 (ix1 ⟨j, by omega⟩)) (fun j => x2 (ix1 ⟨2048 + j, by omega⟩)) d) (x5 (ix2 d e)) := by
  refine Eq.trans (b := val_main_v54 x0 x1 x2 x3 x4 x5 (ix3 ⟨p / 256, by omega⟩ ⟨p % 256, by omega⟩ e)) ?_ ?_
  · pointwise [val_main_v58, val_main_v56, val_main_v57]
    rw [dif_pos h]
  · rw [v54_apply]
    simp only [v51_apply]

/-- and of the latents' part. -/
theorem v58_latent (p : Fin 36864) (h : ¬ (p : ℕ) < 4096) (e : Fin 7200) : val_main_v58 x0 x1 x2 x3 x4 x5 (ix2 p e)
    = ∑ d, @HMul.hMul EReal EReal EReal _ (modulated (fun j => x1 (ix3 ⟨(p - 4096) / 2048, by omega⟩ ⟨(p - 4096) % 2048, by omega⟩ j)) (fun j => x4 (ix1 j)) (fun j => x3 (ix2 ⟨(p - 4096) / 2048, by omega⟩ ⟨j, by omega⟩)) (fun j => x3 (ix2 ⟨(p - 4096) / 2048, by omega⟩ ⟨2048 + j, by omega⟩)) d) (x5 (ix2 d e)) := by
  refine Eq.trans (b := val_main_v55 x0 x1 x2 x3 x4 x5 (ix3 ⟨(p - 4096) / 2048, by omega⟩ ⟨(p - 4096) % 2048, by omega⟩ e)) ?_ ?_
  · pointwise [val_main_v58, val_main_v56, val_main_v57]
    rw [dif_neg h]
  · rw [v55_apply]
    simp only [v32_apply]

/-- The run, its result by the last operation's value and its arguments as they were. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v58)
        = val_main_v58 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (val_main_v58_eq m c), (h c).2⟩) (Cert.Reference3Ideal.Value.run m ρ)

end Cert.Reference3Ideal.InProjection

end
-- ==== Proof.InFinal.lean ====
/- The input projection's result array after its run, as one function of the argument arrays. -/
module

public import proofs.«01_k».proof.Proof.InFrameIdeal
public import proofs.«01_k».proof.Proof.InRead

@[expose] public section

set_option maxRecDepth 16384

noncomputable section

open Idealize.ShloMosaic Idealize.ShloMosaic.TcCoe Idealize.SL.Sem
open Idealize.ShloMosaic.Pipeline (Dat)

namespace Cert.Kernel3Ideal.InProjection

open Cert.Kernel3Ideal Cert.Kernel3Ideal.Gen
open Cert.Reference3Ideal.InProjection (normed modulated)

variable (m : (ℓ : Loc nD τ sig) → Buf (Elt Ideal) ℓ)

/-- A grid point's number. -/
theorem tlt (t : Fin cfg0.N) : t.val < 540 := lt_of_lt_of_eq t.isLt N_0

/-- The row of the stream at a row of a point's block, and the point's row of the modulation. -/
def pOf (t : Fin cfg0.N) (r : Fin 1024) : Fin 36864 := ⟨t.val / 15 * 1024 + r, by have := tlt t; omega⟩
def segOf (t : Fin cfg0.N) : Fin 17 := ⟨seg t.val, by have := tlt t; unfold seg; split <;> omega⟩

/-- The column of the weights at a column of a point's block inside the array. -/
def eOf (t : Fin cfg0.N) (d : Fin 512) (h : t.val % 15 * 512 + d < 7200) : Fin 7200 := ⟨t.val % 15 * 512 + d, h⟩

/-- The joined rows at a row of the context's part, -/
theorem rows_context (x0 : FVec Ideal S16x256x2048 .f32) (x1 : FVec Ideal S16x2048x2048 .f32) (p : Fin 36864) (h : (p : ℕ) < 4096) (d : Fin 2048) :
    concatenate S36864x2048 0 [⟨S4096x2048, shapeCast S4096x2048 x0 shapeCasts_S16x256x2048_S4096x2048⟩,
        ⟨S32768x2048, shapeCast S32768x2048 x1 shapeCasts_S16x2048x2048_S32768x2048⟩] concatenates_S4096x2048_S32768x2048_S36864x2048_d0 (ix2 p d)
      = x0 (ix3 ⟨p / 256, by omega⟩ ⟨p % 256, by omega⟩ d) := by
  pointwise
  rw [dif_pos h]

/-- and of the latents' part. -/
theorem rows_latent (x0 : FVec Ideal S16x256x2048 .f32) (x1 : FVec Ideal S16x2048x2048 .f32) (p : Fin 36864) (h : ¬ (p : ℕ) < 4096) (d : Fin 2048) :
    concatenate S36864x2048 0 [⟨S4096x2048, shapeCast S4096x2048 x0 shapeCasts_S16x256x2048_S4096x2048⟩,
        ⟨S32768x2048, shapeCast S32768x2048 x1 shapeCasts_S16x2048x2048_S32768x2048⟩] concatenates_S4096x2048_S32768x2048_S36864x2048_d0 (ix2 p d)
      = x1 (ix3 ⟨(p - 4096) / 2048, by omega⟩ ⟨(p - 4096) % 2048, by omega⟩ d) := by
  pointwise
  rw [dif_neg h]

/-- The stream at a row of the context's part, -/
theorem V2_context (c : Dev nD) (p : Fin 36864) (h : (p : ℕ) < 4096) (d : Fin 2048) : V m c main_v2 (ix2 p d)
    = m ((c : Thread nD τ).loc main_arg0) (ix3 ⟨p / 256, by omega⟩ ⟨p % 256, by omega⟩ d) := by
  entry_read
  exact rows_context _ _ p h d

/-- and of the latents' part. -/
theorem V2_latent (c : Dev nD) (p : Fin 36864) (h : ¬ (p : ℕ) < 4096) (d : Fin 2048) : V m c main_v2 (ix2 p d)
    = m ((c : Thread nD τ).loc main_arg1) (ix3 ⟨(p - 4096) / 2048, by omega⟩ ⟨(p - 4096) % 2048, by omega⟩ d) := by
  entry_read
  exact rows_latent _ _ p h d

/-- The modulation's row of the context, -/
theorem V5_context (c : Dev nD) (e : Fin 12288) : V m c main_v5 (ix3 0 0 e) = m ((c : Thread nD τ).loc main_arg2) (ix1 e) := by
  entry_read
  pointwise

/-- and of a batch member. -/
theorem V5_latent (c : Dev nD) (b : Fin 16) (e : Fin 12288) : V m c main_v5 (ix3 ⟨1 + b, by omega⟩ 0 e)
    = m ((c : Thread nD τ).loc main_arg3) (ix2 b e) := by
  entry_read
  pointwise

/-- The norm's weights. -/
theorem V6_apply (c : Dev nD) (j : Fin 2048) : V m c main_v6 (ix2 0 j) = m ((c : Thread nD τ).loc main_arg4) (ix1 j) := by
  entry_read
  pointwise

/-- The block of rows, -/
theorem I0 (c : Dev nD) (t : Fin cfg0.N) (r : Fin 1024) (j : Fin 2048) : iblk m c 0 t (ix2 r j) = V m c main_v2 (ix2 (pOf t r) j) := by
  blk_ext [iblk, idx t, pOf]

/-- of the norm's weights, -/
theorem I1 (c : Dev nD) (t : Fin cfg0.N) (j : Fin 2048) : iblk m c 1 t (ix2 0 j) = V m c main_v6 (ix2 0 j) := by
  blk_ext [iblk, idx t]

/-- of the shift, -/
theorem I2 (c : Dev nD) (t : Fin cfg0.N) (j : Fin 2048) : iblk m c 2 t (ix3 0 0 j) = V m c main_v5 (ix3 (segOf t) 0 ⟨j, by omega⟩) := by
  blk_ext [iblk, idx t, segOf]

/-- of the scale, -/
theorem I3 (c : Dev nD) (t : Fin cfg0.N) (j : Fin 2048) : iblk m c 3 t (ix3 0 0 j) = V m c main_v5 (ix3 (segOf t) 0 ⟨2048 + j, by omega⟩) := by
  blk_ext [iblk, idx t, segOf]

/-- and of the weights, at a column inside the array. -/
theorem I4 (c : Dev nD) (t : Fin cfg0.N) (j : Fin 2048) (d : Fin 512) (h : t.val % 15 * 512 + d < 7200) :
    weights m c t (ix2 j d) = m ((c : Thread nD τ).loc main_arg5) (ix2 j (eOf t d h)) := by
  refine Eq.trans (b := V m c main_arg5 (ix2 j (eOf t d h))) ?_ (congrFun (V_main_arg5 m c) _)
  unfold weights Pipeline.Window.fill
  rw [dif_pos (moved_weights t j d h)]
  blk_ext [iblk, idx t, eOf]

/-- Where a moved element of a point's block of the result lies in the result. -/
theorem out_emb (t : Fin cfg0.N) (y : (win0_5.xblock (grid0.coords t)).Idx) (r : Fin 1024) (d : Fin 512) (hr : r.val = (y 0).val) (hd : d.val = (y 1).val)
    (h : t.val % 15 * 512 + d < 7200) : (win0_5.blk t).view.emb y = ix2 (pOf t r) (eOf t d h) := by
  blk_ext [idx t, pOf, eOf]

/-- The stored rows at an element: normalised and modulated. -/
theorem rows_apply (x0 : Vec Ideal S1024x2048 .f32) (x1 : Vec Ideal S1x2048 .f32) (x2 x3 : Vec Ideal S1x1x2048 .f32) (r : Fin 1024) (j : Fin 2048) :
    k0_pay1 x0 x1 x2 x3 (ix2 r j) = modulated (fun d => x0 (ix2 r d)) (fun d => x1 (ix2 0 d)) (fun d => x2 (ix3 0 0 d)) (fun d => x3 (ix3 0 0 d)) j := by
  pointwise [k0_pay1, modulated, normed]

/-- The point's rows from the argument arrays at a row of the context's part, -/
theorem rowsAt_context (c : Dev nD) (t : Fin cfg0.N) (r : Fin 1024) (h : (pOf t r : ℕ) < 4096) (j : Fin 2048) : rowsAt m c t (ix2 r j)
    = modulated (fun d => m ((c : Thread nD τ).loc main_arg0) (ix3 ⟨pOf t r / 256, by omega⟩ ⟨pOf t r % 256, by omega⟩ d)) (fun d => m ((c : Thread nD τ).loc main_arg4) (ix1 d))
        (fun d => m ((c : Thread nD τ).loc main_arg2) (ix1 ⟨d, by omega⟩)) (fun d => m ((c : Thread nD τ).loc main_arg2) (ix1 ⟨2048 + d, by omega⟩)) j := by
  have hs : segOf t = 0 := Fin.ext (if_pos (by unfold pOf at h; dsimp only at h; omega))
  refine (rows_apply _ _ _ _ r j).trans ?_
  simp only [I0, I1, I2, I3, V2_context m c _ h, hs]
  congr 1
  · exact funext fun d => V6_apply m c d
  · exact funext fun d => V5_context m c ⟨d, by omega⟩
  · exact funext fun d => V5_context m c ⟨2048 + d, by omega⟩

/-- and of the latents' part. -/
theorem rowsAt_latent (c : Dev nD) (t : Fin cfg0.N) (r : Fin 1024) (h : ¬ (pOf t r : ℕ) < 4096) (j : Fin 2048) : rowsAt m c t (ix2 r j)
    = modulated (fun d => m ((c : Thread nD τ).loc main_arg1) (ix3 ⟨(pOf t r - 4096) / 2048, by omega⟩ ⟨(pOf t r - 4096) % 2048, by omega⟩ d))
        (fun d => m ((c : Thread nD τ).loc main_arg4) (ix1 d))
        (fun d => m ((c : Thread nD τ).loc main_arg3) (ix2 ⟨(pOf t r - 4096) / 2048, by omega⟩ ⟨d, by omega⟩))
        (fun d => m ((c : Thread nD τ).loc main_arg3) (ix2 ⟨(pOf t r - 4096) / 2048, by omega⟩ ⟨2048 + d, by omega⟩)) j := by
  have hp : ¬ t.val / 15 < 4 := by unfold pOf at h; dsimp only at h; omega
  have hs : segOf t = ⟨1 + (⟨(pOf t r - 4096) / 2048, by omega⟩ : Fin 16), by dsimp only; omega⟩ := by
    apply Fin.ext
    show seg t.val = 1 + (t.val / 15 * 1024 + r.val - 4096) / 2048
    unfold seg
    rw [if_neg hp]
    have := r.isLt
    omega
  refine (rows_apply _ _ _ _ r j).trans ?_
  simp only [I0, I1, I2, I3, V2_latent m c _ h, hs]
  congr 1
  · exact funext fun d => V6_apply m c d
  · exact funext fun d => V5_latent m c ⟨(pOf t r - 4096) / 2048, by omega⟩ ⟨d, by omega⟩
  · exact funext fun d => V5_latent m c ⟨(pOf t r - 4096) / 2048, by omega⟩ ⟨2048 + d, by omega⟩

/-- The written blocks cover the result. -/
theorem covers : win0_5.Covers := by decide +kernel

/-- The kernel's result array after its run is the reference's value of the same arguments. -/
theorem final (c : Dev nD) : (dats m 0 c).arrAt 5 (cfgs 0).N
    = Cert.Reference3Ideal.Read.val_main_v58 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 5 _ covers fun t _ y => ?_
  obtain ⟨r, d, hy, hr, hd⟩ := moved_at t y
  have hi : t.val % 15 * 512 + d.val < 7200 := by rw [hd]; exact moved_inside t y
  rw [after5]
  show outAt m c t (win0_5.xinj (grid0.coords t) y) = _
  rw [hy]
  refine Eq.trans ?_ (congrArg _ (out_emb t y r d hr hd hi).symm)
  refine (product _ _ r d).trans ?_
  simp only [I4 m c t _ d hi]
  by_cases h : (pOf t r : ℕ) < 4096
  · rw [Cert.Reference3Ideal.InProjection.v58_context _ _ _ _ _ _ _ h]
    simp only [rowsAt_context m c t r h]
  · rw [Cert.Reference3Ideal.InProjection.v58_latent _ _ _ _ _ _ _ h]
    simp only [rowsAt_latent m c t r h]

/-- The run, its result the reference's value and its arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v7)
        = Cert.Reference3Ideal.Read.val_main_v58 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 5).trans (final m c), h.2 c⟩)
    (θ_run_and (run_main m ρ) (frame_of m ρ (dats m) (A_eq m) (run_main m ρ)))

end Cert.Kernel3Ideal.InProjection

end
-- ==== Proof.SwaInRead.lean ====
/- The reference of the second layer's input projection read at a row of the stream and a column, in terms of the argument arrays. -/
module

public import proofs.«01_k».proof.Proof.Gen.Reference6Ideal.Read
public import Idealize.ShloMosaic.Lib.Pointwise

@[expose] public section

set_option maxRecDepth 16384

noncomputable section

open Idealize.ShloMosaic Idealize.ShloMosaic.TcCoe Idealize.SL.Sem

namespace Cert.Reference6Ideal.InProjection

open Cert.Reference6Ideal Cert.Reference6Ideal.Gen Cert.Reference6Ideal.Read

/-- A row `x` divided by its root mean square and multiplied by the norm's weights `w`, at a feature. -/
def normed (x w : Fin 2048 → EReal) (d : Fin 2048) : EReal :=
  x d * Ideal.rsqrt (Ideal.div (∑ j, x j * x j) (Ideal.ofBits .f32 0x45000000#32) + Ideal.ofBits .f32 0x358637BD#32) * w d

/-- That row scaled by `1 + scale` and shifted, at a feature. -/
def modulated (x w shift scale : Fin 2048 → EReal) (d : Fin 2048) : EReal := normed x w d * (1 + scale d) + shift d

variable (x0 : (⟨S16x256x2048, .f32⟩ : BufTy).Contents (Elt Ideal)) (x1 : (⟨S16x2048x2048, .f32⟩ : BufTy).Contents (Elt Ideal))
  (x2 : (⟨S12288, .f32⟩ : BufTy).Contents (Elt Ideal)) (x3 : (⟨S16x12288, .f32⟩ : BufTy).Contents (Elt Ideal))
  (x4 : (⟨S2048, .f32⟩ : BufTy).Contents (Elt Ideal)) (x5 : (⟨S2048x2560, .f32⟩ : BufTy).Contents (Elt Ideal))

/-- A context row, normalised and modulated. -/
theorem v51_apply (b : Fin 16) (r : Fin 256) (d : Fin 2048) : val_main_v51 x0 x2 x4 (ix3 b r d)
    = modulated (fun j => x0 (ix3 b r j)) (fun j => x4 (ix1 j)) (fun j => x2 (ix1 ⟨j, by omega⟩)) (fun j => x2 (ix1 ⟨2048 + j, by omega⟩)) d := by
  pointwise [val_main_v51, val_main_v50, val_main_v49, val_main_v48, val_main_v47, val_main_v46, val_main_cst_6, val_main_v45, val_main_v44, val_main_v43,
    val_main_v42, val_main_v41, val_main_v40, val_main_v39, val_main_v38, val_main_cst_5, val_main_v37, val_main_v36, val_main_cst_4, val_main_v35,
    val_main_v34, val_main_v33, val_main_v7, val_main_v8, val_main_v9, modulated, normed]
  rw [show val_main_cst_3 (F := Ideal) (Shape.Idx.first h_S_) = (0 : EReal) from Ideal.ofBits_zero_f32, zero_add]

/-- A latent row, normalised and modulated. -/
theorem v32_apply (b : Fin 16) (r : Fin 2048) (d : Fin 2048) : val_main_v32 x1 x3 x4 (ix3 b r d)
    = modulated (fun j => x1 (ix3 b r j)) (fun j => x4 (ix1 j)) (fun j => x3 (ix2 b ⟨j, by omega⟩)) (fun j => x3 (ix2 b ⟨2048 + j, by omega⟩)) d := by
  pointwise [val_main_v32, val_main_v31, val_main_v30, val_main_v29, val_main_v28, val_main_v27, val_main_cst_2, val_main_v26, val_main_v25, val_main_v24,
    val_main_v23, val_main_v22, val_main_v21, val_main_v20, val_main_v19, val_main_cst_1, val_main_v18, val_main_v17, val_main_cst_0, val_main_v16,
    val_main_v15, val_main_v14, val_main_v0, val_main_v1, val_main_v2, modulated, normed]
  rw [show val_main_cst (F := Ideal) (Shape.Idx.first h_S_) = (0 : EReal) from Ideal.ofBits_zero_f32, zero_add]

/-- The context's and the latents' rows of a batch member, one after the other. -/
theorem v52_apply (b : Fin 16) (k : Fin 2304) (j : Fin 2048) : val_main_v52 x0 x1 x2 x3 x4 (ix3 b k j)
    = if hk : (k : ℕ) < 256 then val_main_v51 x0 x2 x4 (ix3 b ⟨k, hk⟩ j) else val_main_v32 x1 x3 x4 (ix3 b ⟨k - 256, by omega⟩ j) := by
  pointwise [val_main_v52]

/-- The product at a context row, -/
theorem v54_apply (b : Fin 16) (r : Fin 256) (e : Fin 2560) : val_main_v54 x0 x1 x2 x3 x4 x5 (ix3 b r e)
    = ∑ d, @HMul.hMul EReal EReal EReal _ (val_main_v51 x0 x2 x4 (ix3 b r d)) (x5 (ix2 d e)) := by
  pointwise [val_main_v54, val_main_v53, v52_apply]

/-- and at a latent row. -/
theorem v55_apply (b : Fin 16) (r : Fin 2048) (e : Fin 2560) : val_main_v55 x0 x1 x2 x3 x4 x5 (ix3 b r e)
    = ∑ d, @HMul.hMul EReal EReal EReal _ (val_main_v32 x1 x3 x4 (ix3 b r d)) (x5 (ix2 d e)) := by
  pointwise [val_main_v55, val_main_v53, v52_apply]

/-- The result at a row of the context's part, -/
theorem v58_context (p : Fin 36864) (h : (p : ℕ) < 4096) (e : Fin 2560) : val_main_v58 x0 x1 x2 x3 x4 x5 (ix2 p e)
    = ∑ d, @HMul.hMul EReal EReal EReal _ (modulated (fun j => x0 (ix3 ⟨p / 256, by omega⟩ ⟨p % 256, by omega⟩ j)) (fun j => x4 (ix1 j)) (fun j => x2 (ix1 ⟨j, by omega⟩)) (fun j => x2 (ix1 ⟨2048 + j, by omega⟩)) d) (x5 (ix2 d e)) := by
  refine Eq.trans (b := val_main_v54 x0 x1 x2 x3 x4 x5 (ix3 ⟨p / 256, by omega⟩ ⟨p % 256, by omega⟩ e)) ?_ ?_
  · pointwise [val_main_v58, val_main_v56, val_main_v57]
    rw [dif_pos h]
  · rw [v54_apply]
    simp only [v51_apply]

/-- and of the latents' part. -/
theorem v58_latent (p : Fin 36864) (h : ¬ (p : ℕ) < 4096) (e : Fin 2560) : val_main_v58 x0 x1 x2 x3 x4 x5 (ix2 p e)
    = ∑ d, @HMul.hMul EReal EReal EReal _ (modulated (fun j => x1 (ix3 ⟨(p - 4096) / 2048, by omega⟩ ⟨(p - 4096) % 2048, by omega⟩ j)) (fun j => x4 (ix1 j)) (fun j => x3 (ix2 ⟨(p - 4096) / 2048, by omega⟩ ⟨j, by omega⟩)) (fun j => x3 (ix2 ⟨(p - 4096) / 2048, by omega⟩ ⟨2048 + j, by omega⟩)) d) (x5 (ix2 d e)) := by
  refine Eq.trans (b := val_main_v55 x0 x1 x2 x3 x4 x5 (ix3 ⟨(p - 4096) / 2048, by omega⟩ ⟨(p - 4096) % 2048, by omega⟩ e)) ?_ ?_
  · pointwise [val_main_v58, val_main_v56, val_main_v57]
    rw [dif_neg h]
  · rw [v55_apply]
    simp only [v32_apply]

/-- The run, its result by the last operation's value and its arguments as they were. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v58)
        = val_main_v58 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (val_main_v58_eq m c), (h c).2⟩) (Cert.Reference6Ideal.Value.run m ρ)

end Cert.Reference6Ideal.InProjection

end
-- ==== Proof.SwaInFinal.lean ====
/- The second layer's input projection: the result array after its run, as one function of the argument arrays. -/
module

public import proofs.«01_k».proof.Proof.Gen.Kernel6Ideal.Value
public import Idealize.ShloMosaic.Lib.Pipeline.ValueKit
public import Idealize.ShloMosaic.Lib.Ring
public import proofs.«01_k».proof.Proof.SwaInRead

@[expose] public section

set_option maxRecDepth 16384

noncomputable section

open Idealize.ShloMosaic Idealize.ShloMosaic.TcCoe Idealize.SL.Sem
open Idealize.ShloMosaic.Pipeline (Dat)

namespace Cert.Kernel6Ideal.InProjection

open Cert.Kernel6Ideal Cert.Kernel6Ideal.Gen
open Cert.Reference6Ideal.InProjection (normed modulated)

section body
variable (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S1x1x2048 .f32) (harg4 : arg4.IsWhole) (arg5 : Memref sig .tc .vmem S1x1x2048 .f32) (harg5 : arg5.IsWhole)
    (arg6 : Memref sig .tc .vmem S2048x512 .f32) (harg6 : arg6.IsWhole) (arg7 : Memref sig .tc .vmem S1024x512 .f32) (harg7 : arg7.IsWhole)
    (arg8 : Memref sig .tc .vmem S1024x2048 .bf16) (harg8 : arg8.IsWhole)
    (x0 : Vec Ideal S1024x2048 .f32) (x1 : Vec Ideal S1x2048 .f32) (x2 : Vec Ideal S1x1x2048 .f32) (x3 : Vec Ideal S1x1x2048 .f32) (x4 : Vec Ideal S2048x512 .f32)

/-- At the first block of columns the buffer of normalised rows ends at the rows, -/
theorem fill_rows (hc) : sout0_A_0 c i arg2 harg2 arg3 harg3 arg4 harg4 arg5 harg5 arg6 harg6 arg7 harg7 arg8 harg8 hc x0 x1 x2 x3 x4 = k0_pay1 x0 x1 x2 x3 := by
  unfold sout0_A_0
  rw [View.read_writes_eq_canon _ _ _ (fun y => scover0_A_0 c i arg2 harg2 arg3 harg3 arg4 harg4 arg5 harg5 arg6 harg6 arg7 harg7 arg8 harg8 hc x0 x1 x2 x3 x4 y)]
  frame_out [kernelRun0_A]

/-- and the result's block at the product of those rows with the block of weights. -/
theorem fill_block (hc) : out0_A_5 c i arg2 harg2 arg3 harg3 arg4 harg4 arg5 harg5 arg6 harg6 arg7 harg7 arg8 harg8 hc x0 x1 x2 x3 x4 = k0_pay2 (k0_pay1 x0 x1 x2 x3) x4 := by
  unfold out0_A_5
  rw [View.read_writes_eq_canon _ _ _ (fun y => cover0_A_5 c i arg2 harg2 arg3 harg3 arg4 harg4 arg5 harg5 arg6 harg6 arg7 harg7 arg8 harg8 hc x0 x1 x2 x3 x4 y)]
  frame_out [kernelRun0_A]

/-- At a later block of columns the result's block is the product of the rows found with the block of weights. -/
theorem reuse_block (s8 : Vec Ideal S1024x2048 .bf16) (hc) : out0_B_5 c i arg2 harg2 arg3 harg3 arg4 harg4 arg5 harg5 arg6 harg6 arg7 harg7 arg8 harg8 hc x0 x1 x2 x3 x4 s8 = k0_pay2 s8 x4 := by
  unfold out0_B_5
  rw [View.read_writes_eq_canon _ _ _ (fun y => cover0_B_5 c i arg2 harg2 arg3 harg3 arg4 harg4 arg5 harg5 arg6 harg6 arg7 harg7 arg8 harg8 hc x0 x1 x2 x3 x4 s8 y)]
  frame_out [kernelRun0_B]

end body

variable (m : (ℓ : Loc nD τ sig) → Buf (Elt Ideal) ℓ)

/-- The modulation's row at a grid point: the context's or the batch member's. -/
def seg (t : ℕ) : ℕ := if t / 5 < 4 then 0 else 1 + (t / 5 - 4) / 2

/-- Every window's block index at a grid point. -/
theorem idx : ∀ t : Fin cfg0.N, win0_0.index t = ![t.val / 5, 0] ∧ win0_1.index t = ![0, 0]
    ∧ win0_2.index t = ![seg t.val, 0, 0] ∧ win0_3.index t = ![seg t.val, 0, 1]
    ∧ win0_4.index t = ![0, t.val % 5] ∧ win0_5.index t = ![t.val / 5, t.val % 5] :=
  (by decide +kernel : ∀ t : Fin grid0.N, _)

theorem fetched0 (c : Dev nD) (t : Fin cfg0.N) (d) : (dats m 0 c).fetched 0 t d = iblk m c 0 t := by
  unfold Dat.fetched Dat.blockOf iblk; rw [A_eq m c 0]; try rfl
theorem fetched1 (c : Dev nD) (t : Fin cfg0.N) (d) : (dats m 0 c).fetched 1 t d = iblk m c 1 t := by
  unfold Dat.fetched Dat.blockOf iblk; rw [A_eq m c 1]; try rfl
theorem fetched2 (c : Dev nD) (t : Fin cfg0.N) (d) : (dats m 0 c).fetched 2 t d = iblk m c 2 t := by
  unfold Dat.fetched Dat.blockOf iblk; rw [A_eq m c 2]; try rfl
theorem fetched3 (c : Dev nD) (t : Fin cfg0.N) (d) : (dats m 0 c).fetched 3 t d = iblk m c 3 t := by
  unfold Dat.fetched Dat.blockOf iblk; rw [A_eq m c 3]; try rfl

/-- The block's normalised, modulated rows at point `t`. -/
def rowsAt (c : Dev nD) (t : Fin cfg0.N) : Vec Ideal S1024x2048 .bf16 := k0_pay1 (F := Ideal) (iblk m c 0 t) (iblk m c 1 t) (iblk m c 2 t) (iblk m c 3 t)

/-- Two points of one block of rows have the same block of operand 0. -/
theorem same0 (c : Dev nD) (t t' : Fin cfg0.N) (h : t.val / 5 = t'.val / 5) : (iblk m c 0 t : Vec Ideal S1024x2048 .f32) = iblk m c 0 t' := by
  have hix : (cfg0.win 0).index t = (cfg0.win 0).index t' := by
    show win0_0.index t = win0_0.index t'
    rw [(idx t).1, (idx t').1]; try simp only [seg, h]
  exact ((fetched0 m c t (fun _ => Classical.arbitrary _)).symm.trans ((dats m 0 c).fetched_congr 0 hix rfl _)).trans
    (fetched0 m c t' (fun _ => Classical.arbitrary _))

/-- Two points of one block of rows have the same block of operand 1. -/
theorem same1 (c : Dev nD) (t t' : Fin cfg0.N) (h : t.val / 5 = t'.val / 5) : (iblk m c 1 t : Vec Ideal S1x2048 .f32) = iblk m c 1 t' := by
  have hix : (cfg0.win 1).index t = (cfg0.win 1).index t' := by
    show win0_1.index t = win0_1.index t'
    rw [(idx t).2.1, (idx t').2.1]; try simp only [seg, h]
  exact ((fetched1 m c t (fun _ => Classical.arbitrary _)).symm.trans ((dats m 0 c).fetched_congr 1 hix rfl _)).trans
    (fetched1 m c t' (fun _ => Classical.arbitrary _))

/-- Two points of one block of rows have the same block of operand 2. -/
theorem same2 (c : Dev nD) (t t' : Fin cfg0.N) (h : t.val / 5 = t'.val / 5) : (iblk m c 2 t : Vec Ideal S1x1x2048 .f32) = iblk m c 2 t' := by
  have hix : (cfg0.win 2).index t = (cfg0.win 2).index t' := by
    show win0_2.index t = win0_2.index t'
    rw [(idx t).2.2.1, (idx t').2.2.1]; try simp only [seg, h]
  exact ((fetched2 m c t (fun _ => Classical.arbitrary _)).symm.trans ((dats m 0 c).fetched_congr 2 hix rfl _)).trans
    (fetched2 m c t' (fun _ => Classical.arbitrary _))

/-- Two points of one block of rows have the same block of operand 3. -/
theorem same3 (c : Dev nD) (t t' : Fin cfg0.N) (h : t.val / 5 = t'.val / 5) : (iblk m c 3 t : Vec Ideal S1x1x2048 .f32) = iblk m c 3 t' := by
  have hix : (cfg0.win 3).index t = (cfg0.win 3).index t' := by
    show win0_3.index t = win0_3.index t'
    rw [(idx t).2.2.2.1, (idx t').2.2.2.1]; try simp only [seg, h]
  exact ((fetched3 m c t (fun _ => Classical.arbitrary _)).symm.trans ((dats m 0 c).fetched_congr 3 hix rfl _)).trans
    (fetched3 m c t' (fun _ => Classical.arbitrary _))

/-- So they have the same rows. -/
theorem same_rows (c : Dev nD) (t t' : Fin cfg0.N) (h : t.val / 5 = t'.val / 5) : rowsAt m c t = rowsAt m c t' := by
  unfold rowsAt; rw [same0 m c t t' h, same1 m c t t' h, same2 m c t t' h, same3 m c t t' h]

/-- The product at an element: a sum over the row and the weights' column there. -/
theorem product (h : FVec Ideal S1024x2048 .bf16) (w : Vec Ideal S2048x512 .f32) (r : Fin 1024) (d : Fin 512) :
    k0_pay2 h w (ix2 r d) = ∑ j, h (ix2 r j) * w (ix2 j d) := by
  pointwise [k0_pay2]

/-- The buffer of normalised rows holds the rows of the point's block after every point. -/
theorem carried (c : Dev nD) (n : ℕ) : ∀ t : Fin cfg0.N, t.val = n → (outsAt0 m c t.val t.isLt).2 = rowsAt m c t := by
  induction n with
  | zero =>
    intro t ht
    have h0 : t.val % 5 = 0 := by omega
    rw [outsAt0_A m c t h0]
    dsimp only
    rw [fill_rows]
    rfl
  | succ n ih =>
    intro t ht
    by_cases h0 : t.val % 5 = 0
    · rw [outsAt0_A m c t h0]
      dsimp only
      rw [fill_rows]
      rfl
    · rw [outsAt0_B m c t h0]
      dsimp only
      unfold sout0_B_0
      refine (ih ⟨t.val - 1, Nat.lt_of_le_of_lt (Nat.sub_le _ _) t.isLt⟩ (by dsimp only; omega)).trans (same_rows m c _ _ ?_)
      show (t.val - 1) / 5 = t.val / 5
      omega

/-- The result's block after every point is the product of its rows with its block of weights. -/
theorem after_block (c : Dev nD) (t : Fin cfg0.N) : (outsAt0 m c t.val t.isLt).1 = k0_pay2 (F := Ideal) (rowsAt m c t) (iblk m c 4 t) := by
  by_cases h0 : t.val % 5 = 0
  · rw [outsAt0_A m c t h0]
    dsimp only
    rw [fill_block]
    rfl
  · rw [outsAt0_B m c t h0]
    dsimp only
    rw [reuse_block]
    refine congrArg (fun h => k0_pay2 (F := Ideal) h (iblk m c 4 t)) ?_
    refine (carried m c _ ⟨t.val - 1, Nat.lt_of_le_of_lt (Nat.sub_le _ _) t.isLt⟩ rfl).trans (same_rows m c _ _ ?_)
    show (t.val - 1) / 5 = t.val / 5
    omega

/-- A grid point's number. -/
theorem tlt (t : Fin cfg0.N) : t.val < 180 := lt_of_lt_of_eq t.isLt N_0

/-- The row of the stream at a row of a point's block, and the point's row of the modulation. -/
def pOf (t : Fin cfg0.N) (r : Fin 1024) : Fin 36864 := ⟨t.val / 5 * 1024 + r, by have := tlt t; omega⟩
def segOf (t : Fin cfg0.N) : Fin 17 := ⟨seg t.val, by have := tlt t; unfold seg; split <;> omega⟩

/-- The column of the weights at a column of a point's block. -/
def eOf (t : Fin cfg0.N) (d : Fin 512) : Fin 2560 := ⟨t.val % 5 * 512 + d, by omega⟩

/-- The joined rows at a row of the context's part, -/
theorem rows_context (x0 : FVec Ideal S16x256x2048 .f32) (x1 : FVec Ideal S16x2048x2048 .f32) (p : Fin 36864) (h : (p : ℕ) < 4096) (d : Fin 2048) :
    concatenate S36864x2048 0 [⟨S4096x2048, shapeCast S4096x2048 x0 shapeCasts_S16x256x2048_S4096x2048⟩,
        ⟨S32768x2048, shapeCast S32768x2048 x1 shapeCasts_S16x2048x2048_S32768x2048⟩] concatenates_S4096x2048_S32768x2048_S36864x2048_d0 (ix2 p d)
      = x0 (ix3 ⟨p / 256, by omega⟩ ⟨p % 256, by omega⟩ d) := by
  pointwise
  rw [dif_pos h]

/-- and of the latents' part. -/
theorem rows_latent (x0 : FVec Ideal S16x256x2048 .f32) (x1 : FVec Ideal S16x2048x2048 .f32) (p : Fin 36864) (h : ¬ (p : ℕ) < 4096) (d : Fin 2048) :
    concatenate S36864x2048 0 [⟨S4096x2048, shapeCast S4096x2048 x0 shapeCasts_S16x256x2048_S4096x2048⟩,
        ⟨S32768x2048, shapeCast S32768x2048 x1 shapeCasts_S16x2048x2048_S32768x2048⟩] concatenates_S4096x2048_S32768x2048_S36864x2048_d0 (ix2 p d)
      = x1 (ix3 ⟨(p - 4096) / 2048, by omega⟩ ⟨(p - 4096) % 2048, by omega⟩ d) := by
  pointwise
  rw [dif_neg h]

/-- The stream at a row of the context's part, -/
theorem V2_context (c : Dev nD) (p : Fin 36864) (h : (p : ℕ) < 4096) (d : Fin 2048) : V m c main_v2 (ix2 p d)
    = m ((c : Thread nD τ).loc main_arg0) (ix3 ⟨p / 256, by omega⟩ ⟨p % 256, by omega⟩ d) := by
  entry_read
  exact rows_context _ _ p h d

/-- and of the latents' part. -/
theorem V2_latent (c : Dev nD) (p : Fin 36864) (h : ¬ (p : ℕ) < 4096) (d : Fin 2048) : V m c main_v2 (ix2 p d)
    = m ((c : Thread nD τ).loc main_arg1) (ix3 ⟨(p - 4096) / 2048, by omega⟩ ⟨(p - 4096) % 2048, by omega⟩ d) := by
  entry_read
  exact rows_latent _ _ p h d

/-- The modulation's row of the context, -/
theorem V5_context (c : Dev nD) (e : Fin 12288) : V m c main_v5 (ix3 0 0 e) = m ((c : Thread nD τ).loc main_arg2) (ix1 e) := by
  entry_read
  pointwise

/-- and of a batch member. -/
theorem V5_latent (c : Dev nD) (b : Fin 16) (e : Fin 12288) : V m c main_v5 (ix3 ⟨1 + b, by omega⟩ 0 e)
    = m ((c : Thread nD τ).loc main_arg3) (ix2 b e) := by
  entry_read
  pointwise

/-- The norm's weights. -/
theorem V6_apply (c : Dev nD) (j : Fin 2048) : V m c main_v6 (ix2 0 j) = m ((c : Thread nD τ).loc main_arg4) (ix1 j) := by
  entry_read
  pointwise

/-- The block of rows, -/
theorem I0 (c : Dev nD) (t : Fin cfg0.N) (r : Fin 1024) (j : Fin 2048) : iblk m c 0 t (ix2 r j) = V m c main_v2 (ix2 (pOf t r) j) := by
  blk_ext [iblk, idx t, pOf]

/-- of the norm's weights, -/
theorem I1 (c : Dev nD) (t : Fin cfg0.N) (j : Fin 2048) : iblk m c 1 t (ix2 0 j) = V m c main_v6 (ix2 0 j) := by
  blk_ext [iblk, idx t]

/-- of the shift, -/
theorem I2 (c : Dev nD) (t : Fin cfg0.N) (j : Fin 2048) : iblk m c 2 t (ix3 0 0 j) = V m c main_v5 (ix3 (segOf t) 0 ⟨j, by omega⟩) := by
  blk_ext [iblk, idx t, segOf]

/-- of the scale, -/
theorem I3 (c : Dev nD) (t : Fin cfg0.N) (j : Fin 2048) : iblk m c 3 t (ix3 0 0 j) = V m c main_v5 (ix3 (segOf t) 0 ⟨2048 + j, by omega⟩) := by
  blk_ext [iblk, idx t, segOf]

/-- and of the weights. -/
theorem I4 (c : Dev nD) (t : Fin cfg0.N) (j : Fin 2048) (d : Fin 512) :
    iblk m c 4 t (ix2 j d) = m ((c : Thread nD τ).loc main_arg5) (ix2 j (eOf t d)) := by
  refine Eq.trans (b := V m c main_arg5 (ix2 j (eOf t d))) ?_ (congrFun (V_main_arg5 m c) _)
  blk_ext [iblk, idx t, eOf]

/-- Where an element of a point's block of the result lies in the result. -/
theorem out_emb (t : Fin cfg0.N) (r : Fin 1024) (d : Fin 512) : ((cfg0.win 5).blk t).view.emb (ix2 r d) = ix2 (pOf t r) (eOf t d) := by
  blk_ext [idx t, pOf, eOf]

/-- The stored rows at an element: normalised and modulated. -/
theorem rows_apply (x0 : Vec Ideal S1024x2048 .f32) (x1 : Vec Ideal S1x2048 .f32) (x2 x3 : Vec Ideal S1x1x2048 .f32) (r : Fin 1024) (j : Fin 2048) :
    k0_pay1 x0 x1 x2 x3 (ix2 r j) = modulated (fun d => x0 (ix2 r d)) (fun d => x1 (ix2 0 d)) (fun d => x2 (ix3 0 0 d)) (fun d => x3 (ix3 0 0 d)) j := by
  pointwise [k0_pay1, modulated, normed]

/-- The point's rows from the argument arrays at a row of the context's part, -/
theorem rowsAt_context (c : Dev nD) (t : Fin cfg0.N) (r : Fin 1024) (h : (pOf t r : ℕ) < 4096) (j : Fin 2048) : rowsAt m c t (ix2 r j)
    = modulated (fun d => m ((c : Thread nD τ).loc main_arg0) (ix3 ⟨pOf t r / 256, by omega⟩ ⟨pOf t r % 256, by omega⟩ d)) (fun d => m ((c : Thread nD τ).loc main_arg4) (ix1 d))
        (fun d => m ((c : Thread nD τ).loc main_arg2) (ix1 ⟨d, by omega⟩)) (fun d => m ((c : Thread nD τ).loc main_arg2) (ix1 ⟨2048 + d, by omega⟩)) j := by
  have hs : segOf t = 0 := Fin.ext (if_pos (by unfold pOf at h; dsimp only at h; omega))
  refine (rows_apply _ _ _ _ r j).trans ?_
  simp only [I0, I1, I2, I3, V2_context m c _ h, hs]
  congr 1
  · exact funext fun d => V6_apply m c d
  · exact funext fun d => V5_context m c ⟨d, by omega⟩
  · exact funext fun d => V5_context m c ⟨2048 + d, by omega⟩

/-- and of the latents' part. -/
theorem rowsAt_latent (c : Dev nD) (t : Fin cfg0.N) (r : Fin 1024) (h : ¬ (pOf t r : ℕ) < 4096) (j : Fin 2048) : rowsAt m c t (ix2 r j)
    = modulated (fun d => m ((c : Thread nD τ).loc main_arg1) (ix3 ⟨(pOf t r - 4096) / 2048, by omega⟩ ⟨(pOf t r - 4096) % 2048, by omega⟩ d))
        (fun d => m ((c : Thread nD τ).loc main_arg4) (ix1 d))
        (fun d => m ((c : Thread nD τ).loc main_arg3) (ix2 ⟨(pOf t r - 4096) / 2048, by omega⟩ ⟨d, by omega⟩))
        (fun d => m ((c : Thread nD τ).loc main_arg3) (ix2 ⟨(pOf t r - 4096) / 2048, by omega⟩ ⟨2048 + d, by omega⟩)) j := by
  have hp : ¬ t.val / 5 < 4 := by unfold pOf at h; dsimp only at h; omega
  have hs : segOf t = ⟨1 + (⟨(pOf t r - 4096) / 2048, by omega⟩ : Fin 16), by dsimp only; omega⟩ := by
    apply Fin.ext
    show seg t.val = 1 + (t.val / 5 * 1024 + r.val - 4096) / 2048
    unfold seg
    rw [if_neg hp]
    have := r.isLt
    omega
  refine (rows_apply _ _ _ _ r j).trans ?_
  simp only [I0, I1, I2, I3, V2_latent m c _ h, hs]
  congr 1
  · exact funext fun d => V6_apply m c d
  · exact funext fun d => V5_latent m c ⟨(pOf t r - 4096) / 2048, by omega⟩ ⟨d, by omega⟩
  · exact funext fun d => V5_latent m c ⟨(pOf t r - 4096) / 2048, by omega⟩ ⟨2048 + d, by omega⟩

/-- The written blocks cover the result. -/
theorem covers : win0_5.Covers := by decide +kernel

/-- The kernel's result array after its run is the reference's value of the same arguments. -/
theorem final (c : Dev nD) : (dats m 0 c).arrAt 5 (cfgs 0).N
    = Cert.Reference6Ideal.Read.val_main_v58 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 5 _ covers fun t _ y => ?_
  blk_simp
  rw [after0_5, after_block]
  obtain ⟨r, d, rfl⟩ : ∃ (r : Fin 1024) (d : Fin 512), y = ix2 r d := ⟨y 0, y 1, eq_ix2 y⟩
  rw [out_emb]
  refine (product _ _ r d).trans ?_
  simp only [I4]
  by_cases h : (pOf t r : ℕ) < 4096
  · rw [Cert.Reference6Ideal.InProjection.v58_context _ _ _ _ _ _ _ h]
    simp only [rowsAt_context m c t r h]
  · rw [Cert.Reference6Ideal.InProjection.v58_latent _ _ _ _ _ _ _ h]
    simp only [rowsAt_latent m c t r h]

/-- The run, its result the reference's value and its arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v7)
        = Cert.Reference6Ideal.Read.val_main_v58 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (final m c), (h c).2⟩) (Cert.Kernel6Ideal.Value.run_blocks m ρ)

end Cert.Kernel6Ideal.InProjection

end
-- ==== Proof.PrepRead.lean ====
/- The reference of the experts' input and of the router's logits read at a row of the stream, in terms of the argument arrays. -/
module

public import proofs.«01_k».proof.Proof.Gen.Reference7Ideal.Read
public import proofs.«01_k».proof.Proof.InRead
public import Idealize.ShloMosaic.Lib.Pointwise

@[expose] public section

set_option maxRecDepth 16384

noncomputable section

open Idealize.ShloMosaic Idealize.ShloMosaic.TcCoe Idealize.SL.Sem

namespace Cert.Reference7Ideal.Prep

open Cert.Reference7Ideal Cert.Reference7Ideal.Gen Cert.Reference7Ideal.Read

open Cert.Reference3Ideal.InProjection (normed modulated)

variable (x0 : (⟨S16x256x2048, .f32⟩ : BufTy).Contents (Elt Ideal)) (x1 : (⟨S16x2048x2048, .f32⟩ : BufTy).Contents (Elt Ideal))
  (x2 : (⟨S12288, .f32⟩ : BufTy).Contents (Elt Ideal)) (x3 : (⟨S16x12288, .f32⟩ : BufTy).Contents (Elt Ideal))
  (x4 : (⟨S2048, .f32⟩ : BufTy).Contents (Elt Ideal)) (x5 : (⟨S2048x64, .f32⟩ : BufTy).Contents (Elt Ideal))

/-- A context row, normalised and modulated. -/
theorem v51_apply (b : Fin 16) (r : Fin 256) (d : Fin 2048) : val_main_v51 x0 x2 x4 (ix3 b r d)
    = modulated (fun j => x0 (ix3 b r j)) (fun j => x4 (ix1 j)) (fun j => x2 (ix1 ⟨6144 + j, by omega⟩)) (fun j => x2 (ix1 ⟨8192 + j, by omega⟩)) d := by
  pointwise [val_main_v51, val_main_v50, val_main_v49, val_main_v48, val_main_v47, val_main_v46, val_main_cst_6, val_main_v45, val_main_v44, val_main_v43,
    val_main_v42, val_main_v41, val_main_v40, val_main_v39, val_main_v38, val_main_cst_5, val_main_v37, val_main_v36, val_main_cst_4, val_main_v35,
    val_main_v34, val_main_v33, val_main_v7, val_main_v11, val_main_v12, modulated, normed]
  rw [show val_main_cst_3 (F := Ideal) (Shape.Idx.first h_S_) = (0 : EReal) from Ideal.ofBits_zero_f32, zero_add]

/-- A latent row, normalised and modulated. -/
theorem v32_apply (b : Fin 16) (r : Fin 2048) (d : Fin 2048) : val_main_v32 x1 x3 x4 (ix3 b r d)
    = modulated (fun j => x1 (ix3 b r j)) (fun j => x4 (ix1 j)) (fun j => x3 (ix2 b ⟨6144 + j, by omega⟩)) (fun j => x3 (ix2 b ⟨8192 + j, by omega⟩)) d := by
  pointwise [val_main_v32, val_main_v31, val_main_v30, val_main_v29, val_main_v28, val_main_v27, val_main_cst_2, val_main_v26, val_main_v25, val_main_v24,
    val_main_v23, val_main_v22, val_main_v21, val_main_v20, val_main_v19, val_main_cst_1, val_main_v18, val_main_v17, val_main_cst_0, val_main_v16,
    val_main_v15, val_main_v14, val_main_v0, val_main_v4, val_main_v5, modulated, normed]
  rw [show val_main_cst (F := Ideal) (Shape.Idx.first h_S_) = (0 : EReal) from Ideal.ofBits_zero_f32, zero_add]

/-- The rows of the stream at a row of the context's part, -/
theorem v54_context (p : Fin 36864) (h : (p : ℕ) < 4096) (d : Fin 2048) : val_main_v54 x0 x1 x2 x3 x4 (ix2 p d)
    = modulated (fun j => x0 (ix3 ⟨p / 256, by omega⟩ ⟨p % 256, by omega⟩ j)) (fun j => x4 (ix1 j)) (fun j => x2 (ix1 ⟨6144 + j, by omega⟩)) (fun j => x2 (ix1 ⟨8192 + j, by omega⟩)) d := by
  refine Eq.trans (b := val_main_v51 x0 x2 x4 (ix3 ⟨p / 256, by omega⟩ ⟨p % 256, by omega⟩ d)) ?_ (v51_apply ..)
  pointwise [val_main_v54, val_main_v52, val_main_v53]
  rw [dif_pos h]

/-- and of the latents' part. -/
theorem v54_latent (p : Fin 36864) (h : ¬ (p : ℕ) < 4096) (d : Fin 2048) : val_main_v54 x0 x1 x2 x3 x4 (ix2 p d)
    = modulated (fun j => x1 (ix3 ⟨(p - 4096) / 2048, by omega⟩ ⟨(p - 4096) % 2048, by omega⟩ j)) (fun j => x4 (ix1 j)) (fun j => x3 (ix2 ⟨(p - 4096) / 2048, by omega⟩ ⟨6144 + j, by omega⟩)) (fun j => x3 (ix2 ⟨(p - 4096) / 2048, by omega⟩ ⟨8192 + j, by omega⟩)) d := by
  refine Eq.trans (b := val_main_v32 x1 x3 x4 (ix3 ⟨(p - 4096) / 2048, by omega⟩ ⟨(p - 4096) % 2048, by omega⟩ d)) ?_ (v32_apply ..)
  pointwise [val_main_v54, val_main_v52, val_main_v53]
  rw [dif_neg h]

/-- The first result: the rows, rounded. -/
theorem v55_apply (i : S36864x2048.Idx) : val_main_v55 x0 x1 x2 x3 x4 i = val_main_v54 x0 x1 x2 x3 x4 i := rfl

/-- The second: the router's logits, an expert's row and a column for every row of the stream. -/
theorem v57_apply (e : Fin 64) (p : Fin 36864) : val_main_v57 x0 x1 x2 x3 x4 x5 (ix2 e p)
    = ∑ d, @HMul.hMul EReal EReal EReal _ (val_main_v54 x0 x1 x2 x3 x4 (ix2 p d)) (x5 (ix2 d e)) := by
  pointwise [val_main_v57, val_main_v56]

/-- The run, its results by the last operations' values and its arguments as they were. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v55)
        = val_main_v55 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v57)
        = val_main_v57 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (val_main_v55_eq _ _ _ _ _), (h c).2.1.trans (val_main_v57_eq _ _ _ _ _ _), (h c).2.2⟩)
    (Cert.Reference7Ideal.Value.run m ρ)

end Cert.Reference7Ideal.Prep

end
-- ==== Proof.PrepFinal.lean ====
/- The experts' input and the router's logits after their kernel's run, as functions of the argument arrays. -/
module

public import proofs.«01_k».proof.Proof.Gen.Kernel7Ideal.Value
public import Idealize.ShloMosaic.Lib.Pipeline.ValueKit
public import proofs.«01_k».proof.Proof.PrepRead

@[expose] public section

set_option maxRecDepth 16384

noncomputable section

open Idealize.ShloMosaic Idealize.ShloMosaic.TcCoe Idealize.SL.Sem
open Idealize.ShloMosaic.Pipeline (Dat)

namespace Cert.Kernel7Ideal.Prep

open Cert.Kernel7Ideal Cert.Kernel7Ideal.Gen
open Cert.Reference3Ideal.InProjection (normed modulated)

variable (m : (ℓ : Loc nD τ sig) → Buf (Elt Ideal) ℓ)

/-- The modulation's row at a grid point: the context's or the batch member's. -/
def seg (t : ℕ) : ℕ := if t < 8 then 0 else 1 + (t - 8) / 4

/-- Every window's block index at a grid point. -/
theorem idx : ∀ t : Fin cfg0.N, win0_0.index t = ![t.val, 0] ∧ win0_1.index t = ![0, 0] ∧ win0_2.index t = ![seg t.val, 0, 3]
    ∧ win0_3.index t = ![seg t.val, 0, 4] ∧ win0_4.index t = ![0, 0] ∧ win0_5.index t = ![t.val, 0] ∧ win0_6.index t = ![0, t.val] :=
  (by decide +kernel : ∀ t : Fin grid0.N, _)

/-- A grid point's number. -/
theorem tlt (t : Fin cfg0.N) : t.val < 72 := lt_of_lt_of_eq t.isLt N_0

/-- The row of the stream at a row of a point's block, and the modulation's row. -/
def pOf (t : Fin cfg0.N) (r : Fin 512) : Fin 36864 := ⟨t.val * 512 + r, by have := tlt t; omega⟩
def segOf (t : Fin cfg0.N) : Fin 17 := ⟨seg t.val, by have := tlt t; unfold seg; split <;> omega⟩

/-- The joined rows at a row of the context's part, -/
theorem rows_context (x0 : FVec Ideal S16x256x2048 .f32) (x1 : FVec Ideal S16x2048x2048 .f32) (p : Fin 36864) (h : (p : ℕ) < 4096) (d : Fin 2048) :
    concatenate S36864x2048 0 [⟨S4096x2048, shapeCast S4096x2048 x0 shapeCasts_S16x256x2048_S4096x2048⟩,
        ⟨S32768x2048, shapeCast S32768x2048 x1 shapeCasts_S16x2048x2048_S32768x2048⟩] concatenates_S4096x2048_S32768x2048_S36864x2048_d0 (ix2 p d)
      = x0 (ix3 ⟨p / 256, by omega⟩ ⟨p % 256, by omega⟩ d) := by
  pointwise
  rw [dif_pos h]

/-- and of the latents' part. -/
theorem rows_latent (x0 : FVec Ideal S16x256x2048 .f32) (x1 : FVec Ideal S16x2048x2048 .f32) (p : Fin 36864) (h : ¬ (p : ℕ) < 4096) (d : Fin 2048) :
    concatenate S36864x2048 0 [⟨S4096x2048, shapeCast S4096x2048 x0 shapeCasts_S16x256x2048_S4096x2048⟩,
        ⟨S32768x2048, shapeCast S32768x2048 x1 shapeCasts_S16x2048x2048_S32768x2048⟩] concatenates_S4096x2048_S32768x2048_S36864x2048_d0 (ix2 p d)
      = x1 (ix3 ⟨(p - 4096) / 2048, by omega⟩ ⟨(p - 4096) % 2048, by omega⟩ d) := by
  pointwise
  rw [dif_neg h]

/-- The stream at a row of the context's part, -/
theorem V2_context (c : Dev nD) (p : Fin 36864) (h : (p : ℕ) < 4096) (d : Fin 2048) : V m c main_v2 (ix2 p d)
    = m ((c : Thread nD τ).loc main_arg0) (ix3 ⟨p / 256, by omega⟩ ⟨p % 256, by omega⟩ d) := by
  entry_read
  exact rows_context _ _ p h d

/-- and of the latents' part. -/
theorem V2_latent (c : Dev nD) (p : Fin 36864) (h : ¬ (p : ℕ) < 4096) (d : Fin 2048) : V m c main_v2 (ix2 p d)
    = m ((c : Thread nD τ).loc main_arg1) (ix3 ⟨(p - 4096) / 2048, by omega⟩ ⟨(p - 4096) % 2048, by omega⟩ d) := by
  entry_read
  exact rows_latent _ _ p h d

/-- The modulation's row of the context, -/
theorem V5_context (c : Dev nD) (e : Fin 12288) : V m c main_v5 (ix3 0 0 e) = m ((c : Thread nD τ).loc main_arg2) (ix1 e) := by
  entry_read
  pointwise

/-- and of a batch member. -/
theorem V5_latent (c : Dev nD) (b : Fin 16) (e : Fin 12288) : V m c main_v5 (ix3 ⟨1 + b, by omega⟩ 0 e)
    = m ((c : Thread nD τ).loc main_arg3) (ix2 b e) := by
  entry_read
  pointwise

/-- The norm's weights, -/
theorem V6_apply (c : Dev nD) (j : Fin 2048) : V m c main_v6 (ix2 0 j) = m ((c : Thread nD τ).loc main_arg4) (ix1 j) := by
  entry_read
  pointwise

/-- and the router's, transposed. -/
theorem V7_apply (c : Dev nD) (e : Fin 64) (j : Fin 2048) : V m c main_v7 (ix2 e j) = m ((c : Thread nD τ).loc main_arg5) (ix2 j e) := by
  entry_read
  pointwise

/-- The block of rows, -/
theorem I0 (c : Dev nD) (t : Fin cfg0.N) (r : Fin 512) (j : Fin 2048) : iblk m c 0 t (ix2 r j) = V m c main_v2 (ix2 (pOf t r) j) := by
  blk_ext [iblk, idx t, pOf]

/-- of the norm's weights, -/
theorem I1 (c : Dev nD) (t : Fin cfg0.N) (j : Fin 2048) : iblk m c 1 t (ix2 0 j) = V m c main_v6 (ix2 0 j) := by
  blk_ext [iblk, idx t]

/-- of the shift, -/
theorem I2 (c : Dev nD) (t : Fin cfg0.N) (j : Fin 2048) : iblk m c 2 t (ix3 0 0 j) = V m c main_v5 (ix3 (segOf t) 0 ⟨6144 + j, by omega⟩) := by
  blk_ext [iblk, idx t, segOf]

/-- of the scale, -/
theorem I3 (c : Dev nD) (t : Fin cfg0.N) (j : Fin 2048) : iblk m c 3 t (ix3 0 0 j) = V m c main_v5 (ix3 (segOf t) 0 ⟨8192 + j, by omega⟩) := by
  blk_ext [iblk, idx t, segOf]

/-- and of the router's weights. -/
theorem I4 (c : Dev nD) (t : Fin cfg0.N) (e : Fin 64) (j : Fin 2048) : iblk m c 4 t (ix2 e j) = V m c main_v7 (ix2 e j) := by
  blk_ext [iblk, idx t]

/-- Where an element of a point's block of the rows lies in the result, -/
theorem rows_emb (t : Fin cfg0.N) (r : Fin 512) (d : Fin 2048) : ((View.whole main_v8_0).slice (win0_5.rect t)).emb (ix2 r d)
    = ix2 (pOf t r) d := by
  blk_ext [idx t, pOf]

/-- and an element of its block of the logits. -/
theorem logits_emb (t : Fin cfg0.N) (e : Fin 64) (r : Fin 512) : ((View.whole main_v8_1).slice (win0_6.rect t)).emb (ix2 e r)
    = ix2 e (pOf t r) := by
  blk_ext [idx t, pOf]

/-- The computed rows at an element: normalised and modulated. -/
theorem rows_apply (x0 : Vec Ideal S512x2048 .f32) (x1 : Vec Ideal S1x2048 .f32) (x2 x3 : Vec Ideal S1x1x2048 .f32) (r : Fin 512) (j : Fin 2048) :
    k0_pay1 x0 x1 x2 x3 (ix2 r j) = modulated (fun d => x0 (ix2 r d)) (fun d => x1 (ix2 0 d)) (fun d => x2 (ix3 0 0 d)) (fun d => x3 (ix3 0 0 d)) j := by
  pointwise [k0_pay1, modulated, normed]

/-- The logits of them. -/
theorem logits_apply (x0 : Vec Ideal S512x2048 .f32) (x1 : Vec Ideal S1x2048 .f32) (x2 x3 : Vec Ideal S1x1x2048 .f32) (x4 : Vec Ideal S64x2048 .f32)
    (e : Fin 64) (r : Fin 512) : k0_pay3 x0 x1 x2 x3 x4 (ix2 e r) = ∑ j, @HMul.hMul EReal EReal EReal _ (x4 (ix2 e j)) (k0_pay1 x0 x1 x2 x3 (ix2 r j)) := by
  pointwise [k0_pay3]

/-- The rows a point computes are the reference's rows of the stream. -/
theorem rowsAt (c : Dev nD) (t : Fin cfg0.N) (r : Fin 512) (j : Fin 2048) :
    k0_pay1 (iblk m c 0 t) (iblk m c 1 t) (iblk m c 2 t) (iblk m c 3 t) (ix2 r j)
      = Cert.Reference7Ideal.Read.val_main_v54 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (ix2 (pOf t r) j) := by
  refine (rows_apply _ _ _ _ r j).trans ?_
  by_cases h : (pOf t r : ℕ) < 4096
  · have hs : segOf t = 0 := Fin.ext (if_pos (by unfold pOf at h; dsimp only at h; omega))
    rw [Cert.Reference7Ideal.Prep.v54_context _ _ _ _ _ _ h]
    simp only [I0, I1, I2, I3, V2_context m c _ h, hs]
    congr 1
    · exact funext fun d => V6_apply m c d
    · exact funext fun d => V5_context m c ⟨6144 + d, by omega⟩
    · exact funext fun d => V5_context m c ⟨8192 + d, by omega⟩
  · have hp : ¬ t.val < 8 := by unfold pOf at h; dsimp only at h; omega
    have hs : segOf t = ⟨1 + (⟨(pOf t r - 4096) / 2048, by omega⟩ : Fin 16), by dsimp only; omega⟩ := by
      apply Fin.ext
      refine (if_neg hp).trans ?_
      unfold pOf
      dsimp only
      omega
    rw [Cert.Reference7Ideal.Prep.v54_latent _ _ _ _ _ _ h]
    simp only [I0, I1, I2, I3, V2_latent m c _ h, hs]
    congr 1
    · exact funext fun d => V6_apply m c d
    · exact funext fun d => V5_latent m c ⟨(pOf t r - 4096) / 2048, by omega⟩ ⟨6144 + d, by omega⟩
    · exact funext fun d => V5_latent m c ⟨(pOf t r - 4096) / 2048, by omega⟩ ⟨8192 + d, by omega⟩

/-- The experts' input after the kernel's run is the reference's value of the same arguments, -/
theorem final_rows (c : Dev nD) : (dats m 0 c).arrAt 5 (cfgs 0).N
    = Cert.Reference7Ideal.Read.val_main_v55 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; unfold out0_5; frame_out
  obtain ⟨r, d, rfl⟩ : ∃ (r : Fin 512) (d : Fin 2048), y = ix2 r d := ⟨y 0, y 1, eq_ix2 y⟩
  rw [rows_emb]
  exact rowsAt m c t r d

/-- and so are the logits. -/
theorem final_logits (c : Dev nD) : (dats m 0 c).arrAt 6 (cfgs 0).N
    = Cert.Reference7Ideal.Read.val_main_v57 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t _ y => ?_
  blk_simp
  rw [after0_6]; unfold out0_6; frame_out
  obtain ⟨e, r, rfl⟩ : ∃ (e : Fin 64) (r : Fin 512), y = ix2 e r := ⟨y 0, y 1, eq_ix2 y⟩
  rw [logits_emb, Cert.Reference7Ideal.Prep.v57_apply]
  refine (logits_apply _ _ _ _ _ e r).trans (Finset.sum_congr rfl fun j _ => ?_)
  rw [rowsAt, I4, V7_apply]
  exact mul_comm (G := EReal) _ _

end Cert.Kernel7Ideal.Prep

end
-- ==== Proof.OutRead.lean ====
/- The reference of the output projection read at a row of the stream and a feature, in terms of the argument arrays. -/
module

public import proofs.«01_k».proof.Proof.Gen.Reference4Ideal.Read
public import Idealize.ShloMosaic.Lib.Pointwise

@[expose] public section

set_option maxRecDepth 16384

noncomputable section

open Idealize.ShloMosaic Idealize.ShloMosaic.TcCoe Idealize.SL.Sem

namespace Cert.Reference4Ideal.OutProjection

open Cert.Reference4Ideal Cert.Reference4Ideal.Gen Cert.Reference4Ideal.Read

variable (x0 : (⟨S16x256x2048, .f32⟩ : BufTy).Contents (Elt Ideal)) (x1 : (⟨S16x2048x2048, .f32⟩ : BufTy).Contents (Elt Ideal))
  (x2 : (⟨S12288, .f32⟩ : BufTy).Contents (Elt Ideal)) (x3 : (⟨S16x12288, .f32⟩ : BufTy).Contents (Elt Ideal))
  (x4 : (⟨S16x256x2048, .f32⟩ : BufTy).Contents (Elt Ideal)) (x5 : (⟨S16x2048x2048, .f32⟩ : BufTy).Contents (Elt Ideal))
  (x6 : (⟨S2048x2048, .f32⟩ : BufTy).Contents (Elt Ideal))

/-- The concatenated mixer outputs of a batch member. -/
theorem v14_apply (b : Fin 16) (k : Fin 2304) (j : Fin 2048) :
    val_main_v14 x4 x5 (ix3 b k j)
      = if hk : (k : ℕ) < 256 then x4 (ix3 b ⟨k, hk⟩ j) else x5 (ix3 b ⟨k - 256, by omega⟩ j) := by
  pointwise [val_main_v14]

/-- A context row. -/
theorem v19_apply (b : Fin 16) (r : Fin 256) (d : Fin 2048) :
    val_main_v19 x0 x2 x4 x5 x6 (ix3 b r d)
      = x0 (ix3 b r d) + x2 (ix1 ⟨4096 + d, by omega⟩) * ∑ j, x4 (ix3 b r j) * x6 (ix2 j d) := by
  pointwise [val_main_v19, val_main_v18, val_main_v17, val_main_v16, val_main_v15, val_main_v10, val_main_v7, v14_apply]

/-- A latent row. -/
theorem v23_apply (b : Fin 16) (r : Fin 2048) (d : Fin 2048) :
    val_main_v23 x1 x3 x4 x5 x6 (ix3 b r d)
      = x1 (ix3 b r d) + x3 (ix2 b ⟨4096 + d, by omega⟩) * ∑ j, x5 (ix3 b r j) * x6 (ix2 j d) := by
  pointwise [val_main_v23, val_main_v22, val_main_v21, val_main_v20, val_main_v15, val_main_v3, val_main_v0, v14_apply]

/-- The result at a row of the context's part, -/
theorem v26_context (p : Fin 36864) (h : (p : ℕ) < 4096) (d : Fin 2048) :
    val_main_v26 x0 x1 x2 x3 x4 x5 x6 (ix2 p d) = val_main_v19 x0 x2 x4 x5 x6 (ix3 ⟨p / 256, by omega⟩ ⟨p % 256, by omega⟩ d) := by
  pointwise [val_main_v26, val_main_v24, val_main_v25]
  rw [dif_pos h]

/-- and of the latents' part. -/
theorem v26_latent (p : Fin 36864) (h : ¬ (p : ℕ) < 4096) (d : Fin 2048) :
    val_main_v26 x0 x1 x2 x3 x4 x5 x6 (ix2 p d)
      = val_main_v23 x1 x3 x4 x5 x6 (ix3 ⟨(p - 4096) / 2048, by omega⟩ ⟨(p - 4096) % 2048, by omega⟩ d) := by
  pointwise [val_main_v26, val_main_v24, val_main_v25]
  rw [dif_neg h]

end Cert.Reference4Ideal.OutProjection

end
-- ==== Proof.OutFinal.lean ====
/- The output projection's result array after its run, as one function of the argument arrays. -/
module

public import proofs.«01_k».proof.Proof.Gen.Kernel4Ideal.Value
public import Idealize.ShloMosaic.Lib.Pipeline.ValueKit
public import proofs.«01_k».proof.Proof.OutRead

@[expose] public section

set_option maxRecDepth 16384

noncomputable section

open Idealize.ShloMosaic Idealize.ShloMosaic.TcCoe Idealize.SL.Sem
open Idealize.ShloMosaic.Pipeline (Dat)

namespace Cert.Kernel4Ideal.OutProjection

open Cert.Kernel4Ideal Cert.Kernel4Ideal.Gen

variable (m : (ℓ : Loc nD τ sig) → Buf (Elt Ideal) ℓ)

/-- The modulation's row at a grid point: the context's or the batch member's. -/
def seg (t : ℕ) : ℕ := if t / 4 < 4 then 0 else 1 + (t / 4 - 4) / 2

/-- Every window's block index at a grid point. -/
theorem idx : ∀ t : Fin cfg0.N, win0_0.index t = ![t.val / 4, 0] ∧ win0_1.index t = ![0, t.val % 4]
    ∧ win0_2.index t = ![t.val / 4, t.val % 4] ∧ win0_3.index t = ![seg t.val, 0, 8 + t.val % 4]
    ∧ win0_4.index t = ![t.val / 4, t.val % 4] :=
  (by decide +kernel : ∀ t : Fin grid0.N, _)

/-- A grid point's number. -/
theorem tlt (t : Fin cfg0.N) : t.val < 144 := lt_of_lt_of_eq t.isLt N_0

/-- The row and the column of the stream at an element of a point's block. -/
def pOf (t : Fin cfg0.N) (r : Fin 1024) : Fin 36864 := ⟨t.val / 4 * 1024 + r, by have := tlt t; omega⟩
def dOf (t : Fin cfg0.N) (d : Fin 512) : Fin 2048 := ⟨t.val % 4 * 512 + d, by omega⟩
def segOf (t : Fin cfg0.N) : Fin 17 := ⟨seg t.val, by have := tlt t; unfold seg; split <;> omega⟩

/-- The joined rows at a row of the context's part, -/
theorem rows_context (x0 : FVec Ideal S16x256x2048 .f32) (x1 : FVec Ideal S16x2048x2048 .f32) (p : Fin 36864) (h : (p : ℕ) < 4096) (d : Fin 2048) :
    concatenate S36864x2048 0 [⟨S4096x2048, shapeCast S4096x2048 x0 shapeCasts_S16x256x2048_S4096x2048⟩,
        ⟨S32768x2048, shapeCast S32768x2048 x1 shapeCasts_S16x2048x2048_S32768x2048⟩] concatenates_S4096x2048_S32768x2048_S36864x2048_d0 (ix2 p d)
      = x0 (ix3 ⟨p / 256, by omega⟩ ⟨p % 256, by omega⟩ d) := by
  pointwise
  rw [dif_pos h]

/-- and of the latents' part. -/
theorem rows_latent (x0 : FVec Ideal S16x256x2048 .f32) (x1 : FVec Ideal S16x2048x2048 .f32) (p : Fin 36864) (h : ¬ (p : ℕ) < 4096) (d : Fin 2048) :
    concatenate S36864x2048 0 [⟨S4096x2048, shapeCast S4096x2048 x0 shapeCasts_S16x256x2048_S4096x2048⟩,
        ⟨S32768x2048, shapeCast S32768x2048 x1 shapeCasts_S16x2048x2048_S32768x2048⟩] concatenates_S4096x2048_S32768x2048_S36864x2048_d0 (ix2 p d)
      = x1 (ix3 ⟨(p - 4096) / 2048, by omega⟩ ⟨(p - 4096) % 2048, by omega⟩ d) := by
  pointwise
  rw [dif_neg h]

/-- The stream at a row of the context's part, -/
theorem V2_context (c : Dev nD) (p : Fin 36864) (h : (p : ℕ) < 4096) (d : Fin 2048) : V m c main_v2 (ix2 p d)
    = m ((c : Thread nD τ).loc main_arg0) (ix3 ⟨p / 256, by omega⟩ ⟨p % 256, by omega⟩ d) := by
  entry_read
  exact rows_context _ _ p h d

/-- and of the latents' part. -/
theorem V2_latent (c : Dev nD) (p : Fin 36864) (h : ¬ (p : ℕ) < 4096) (d : Fin 2048) : V m c main_v2 (ix2 p d)
    = m ((c : Thread nD τ).loc main_arg1) (ix3 ⟨(p - 4096) / 2048, by omega⟩ ⟨(p - 4096) % 2048, by omega⟩ d) := by
  entry_read
  exact rows_latent _ _ p h d

/-- The mixer's output at a row of the context's part, -/
theorem V8_context (c : Dev nD) (p : Fin 36864) (h : (p : ℕ) < 4096) (d : Fin 2048) : V m c main_v8 (ix2 p d)
    = m ((c : Thread nD τ).loc main_arg4) (ix3 ⟨p / 256, by omega⟩ ⟨p % 256, by omega⟩ d) := by
  entry_read
  exact rows_context _ _ p h d

/-- and of the latents' part. -/
theorem V8_latent (c : Dev nD) (p : Fin 36864) (h : ¬ (p : ℕ) < 4096) (d : Fin 2048) : V m c main_v8 (ix2 p d)
    = m ((c : Thread nD τ).loc main_arg5) (ix3 ⟨(p - 4096) / 2048, by omega⟩ ⟨(p - 4096) % 2048, by omega⟩ d) := by
  entry_read
  exact rows_latent _ _ p h d

/-- The modulation's row of the context, -/
theorem V5_context (c : Dev nD) (e : Fin 12288) : V m c main_v5 (ix3 0 0 e) = m ((c : Thread nD τ).loc main_arg2) (ix1 e) := by
  entry_read
  pointwise

/-- and of a batch member. -/
theorem V5_latent (c : Dev nD) (b : Fin 16) (e : Fin 12288) : V m c main_v5 (ix3 ⟨1 + b, by omega⟩ 0 e)
    = m ((c : Thread nD τ).loc main_arg3) (ix2 b e) := by
  entry_read
  pointwise

/-- The block of rows, -/
theorem I0 (c : Dev nD) (t : Fin cfg0.N) (r : Fin 1024) (j : Fin 2048) : iblk m c 0 t (ix2 r j) = V m c main_v8 (ix2 (pOf t r) j) := by
  blk_ext [iblk, idx t, pOf]

/-- of weights, -/
theorem I1 (c : Dev nD) (t : Fin cfg0.N) (j : Fin 2048) (d : Fin 512) : iblk m c 1 t (ix2 j d)
    = m ((c : Thread nD τ).loc main_arg6) (ix2 j (dOf t d)) := by
  refine Eq.trans (b := V m c main_arg6 (ix2 j (dOf t d))) ?_ (congrFun (V_main_arg6 m c) _)
  blk_ext [iblk, idx t, dOf]

/-- of the stream, -/
theorem I2 (c : Dev nD) (t : Fin cfg0.N) (r : Fin 1024) (d : Fin 512) : iblk m c 2 t (ix2 r d) = V m c main_v2 (ix2 (pOf t r) (dOf t d)) := by
  blk_ext [iblk, idx t, pOf, dOf]

/-- and of the gate. -/
theorem I3 (c : Dev nD) (t : Fin cfg0.N) (d : Fin 512) : iblk m c 3 t (ix3 0 0 d)
    = V m c main_v5 (ix3 (segOf t) 0 ⟨4096 + dOf t d, by omega⟩) := by
  blk_ext [iblk, idx t, segOf, dOf]

/-- Where an element of a point's block of the result lies in the result. -/
theorem out_emb (t : Fin cfg0.N) (r : Fin 1024) (d : Fin 512) : ((View.whole main_v9).slice (win0_4.rect t)).emb (ix2 r d)
    = ix2 (pOf t r) (dOf t d) := by
  blk_ext [idx t, pOf, dOf]

/-- The stored block at an element. -/
theorem stored (x0 : Vec Ideal S1024x2048 .f32) (x1 : Vec Ideal S2048x512 .f32) (x2 : Vec Ideal S1024x512 .f32) (x3 : Vec Ideal S1x1x512 .f32)
    (r : Fin 1024) (d : Fin 512) :
    k0_pay1 x0 x1 x2 x3 (ix2 r d) = x2 (ix2 r d) + x3 (ix3 0 0 d) * ∑ j, x0 (ix2 r j) * x1 (ix2 j d) := by
  pointwise [k0_pay1]

/-- The kernel's result array after its run is the reference's value of the same arguments. -/
theorem final (c : Dev nD) : (dats m 0 c).arrAt 4 (cfgs 0).N
    = Cert.Reference4Ideal.Read.val_main_v26 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 4 _ (by decide +kernel) fun t _ y => ?_
  blk_simp
  rw [after0_4]; unfold out0_4; frame_out
  obtain ⟨r, d, rfl⟩ : ∃ (r : Fin 1024) (d : Fin 512), y = ix2 r d := ⟨y 0, y 1, eq_ix2 y⟩
  rw [out_emb]
  refine (stored _ _ _ _ r d).trans ?_
  simp only [I0, I1, I2, I3]
  by_cases h : (pOf t r : ℕ) < 4096
  · have hs : segOf t = 0 := Fin.ext (if_pos (by unfold pOf at h; dsimp only at h; omega))
    rw [Cert.Reference4Ideal.OutProjection.v26_context _ _ _ _ _ _ _ _ h, Cert.Reference4Ideal.OutProjection.v19_apply, hs, V5_context, V2_context m c _ h]
    simp only [V8_context m c _ h]
  · have hp : ¬ t.val / 4 < 4 := by unfold pOf at h; dsimp only at h; omega
    have hs : segOf t = ⟨1 + (⟨(pOf t r - 4096) / 2048, by omega⟩ : Fin 16), by dsimp only; omega⟩ := by
      apply Fin.ext
      refine (if_neg hp).trans ?_
      unfold pOf
      dsimp only
      omega
    rw [Cert.Reference4Ideal.OutProjection.v26_latent _ _ _ _ _ _ _ _ h, Cert.Reference4Ideal.OutProjection.v23_apply, hs, V5_latent, V2_latent m c _ h]
    simp only [V8_latent m c _ h]

end Cert.Kernel4Ideal.OutProjection

end
-- ==== Proof.SharedRead.lean ====
/- The reference of the shared expert read at a row of the stream and a feature, in terms of the argument arrays. -/
module

public import proofs.«01_k».proof.Proof.Gen.Reference5Ideal.Read
public import proofs.«01_k».proof.Proof.Gated

@[expose] public section

set_option maxRecDepth 16384

noncomputable section

open Idealize.ShloMosaic Idealize.ShloMosaic.TcCoe Idealize.SL.Sem

namespace Cert.Reference5Ideal.Shared

open Cert.Reference5Ideal Cert.Reference5Ideal.Gen Cert.Reference5Ideal.Read Cert.Gated

variable (x0 : (⟨S16x256x2048, .f32⟩ : BufTy).Contents (Elt Ideal)) (x1 : (⟨S16x2048x2048, .f32⟩ : BufTy).Contents (Elt Ideal))
  (x2 : (⟨S12288, .f32⟩ : BufTy).Contents (Elt Ideal)) (x3 : (⟨S16x12288, .f32⟩ : BufTy).Contents (Elt Ideal))
  (x4 x5 : (⟨S36864x2048, .f32⟩ : BufTy).Contents (Elt Ideal)) (x6 x7 : (⟨S2048x512, .f32⟩ : BufTy).Contents (Elt Ideal))
  (x8 : (⟨S512x2048, .f32⟩ : BufTy).Contents (Elt Ideal))

/-- The shared expert's output at a row, added to the routed experts'. -/
theorem v19_apply (p : Fin 36864) (d : Fin 2048) :
    val_main_v19 x4 x5 x6 x7 x8 (ix2 p d)
      = x5 (ix2 p d) + ffn (fun j => x4 (ix2 p j)) (fun j k => x6 (ix2 j k)) (fun j k => x7 (ix2 j k)) (fun k => x8 (ix2 k d)) := by
  unfold ffn gate Ideal.logistic
  pointwise [val_main_v19, val_main_v18, val_main_v17, val_main_v16, val_main_v15, val_main_v14, val_main_call0_v5, val_main_call0_v4,
    val_main_call0_v3, val_main_call0_v2, val_main_call0_v1, val_main_call0_v0, val_main_call0_cst, val_main_call0_cst_0]

/-- A context row. -/
theorem v24_apply (b : Fin 16) (r : Fin 256) (d : Fin 2048) :
    val_main_v24 x0 x2 x4 x5 x6 x7 x8 (ix3 b r d)
      = x0 (ix3 b r d) + x2 (ix1 ⟨10240 + d, by omega⟩) * val_main_v19 x4 x5 x6 x7 x8 (ix2 ⟨b * 256 + r, by omega⟩ d) := by
  generalize hv : val_main_v19 x4 x5 x6 x7 x8 = v
  pointwise [val_main_v24, val_main_v23, val_main_v22, val_main_v21, val_main_v20, val_main_v13, val_main_v7, hv]

/-- A latent row. -/
theorem v29_apply (b : Fin 16) (r : Fin 2048) (d : Fin 2048) :
    val_main_v29 x1 x3 x4 x5 x6 x7 x8 (ix3 b r d)
      = x1 (ix3 b r d) + x3 (ix2 b ⟨10240 + d, by omega⟩) * val_main_v19 x4 x5 x6 x7 x8 (ix2 ⟨4096 + (b * 2048 + r), by omega⟩ d) := by
  generalize hv : val_main_v19 x4 x5 x6 x7 x8 = v
  pointwise [val_main_v29, val_main_v28, val_main_v27, val_main_v26, val_main_v25, val_main_v6, val_main_v0, hv]

/-- The result at a row of the context's part, -/
theorem v32_context (p : Fin 36864) (h : (p : ℕ) < 4096) (d : Fin 2048) :
    val_main_v32 x0 x1 x2 x3 x4 x5 x6 x7 x8 (ix2 p d)
      = x0 (ix3 ⟨p / 256, by omega⟩ ⟨p % 256, by omega⟩ d) + x2 (ix1 ⟨10240 + d, by omega⟩) * val_main_v19 x4 x5 x6 x7 x8 (ix2 p d) := by
  have e : val_main_v32 x0 x1 x2 x3 x4 x5 x6 x7 x8 (ix2 p d)
      = val_main_v24 x0 x2 x4 x5 x6 x7 x8 (ix3 ⟨p / 256, by omega⟩ ⟨p % 256, by omega⟩ d) := by
    pointwise [val_main_v32, val_main_v30, val_main_v31]
    rw [dif_pos h]
  rw [e, v24_apply]
  refine congrArg (_ + _ * val_main_v19 x4 x5 x6 x7 x8 ·) (congrArg (ix2 · d) (Fin.ext ?_))
  dsimp only
  omega

/-- and of the latents' part. -/
theorem v32_latent (p : Fin 36864) (h : ¬ (p : ℕ) < 4096) (d : Fin 2048) :
    val_main_v32 x0 x1 x2 x3 x4 x5 x6 x7 x8 (ix2 p d)
      = x1 (ix3 ⟨(p - 4096) / 2048, by omega⟩ ⟨(p - 4096) % 2048, by omega⟩ d)
        + x3 (ix2 ⟨(p - 4096) / 2048, by omega⟩ ⟨10240 + d, by omega⟩) * val_main_v19 x4 x5 x6 x7 x8 (ix2 p d) := by
  have e : val_main_v32 x0 x1 x2 x3 x4 x5 x6 x7 x8 (ix2 p d)
      = val_main_v29 x1 x3 x4 x5 x6 x7 x8 (ix3 ⟨(p - 4096) / 2048, by omega⟩ ⟨(p - 4096) % 2048, by omega⟩ d) := by
    pointwise [val_main_v32, val_main_v30, val_main_v31]
    rw [dif_neg h]
  rw [e, v29_apply]
  refine congrArg (_ + _ * val_main_v19 x4 x5 x6 x7 x8 ·) (congrArg (ix2 · d) (Fin.ext ?_))
  dsimp only
  omega

end Cert.Reference5Ideal.Shared

end
-- ==== Proof.SharedFinal.lean ====
/- The shared expert's result array after its run, as one function of the argument arrays. -/
module

public import proofs.«01_k».proof.Proof.Gen.Kernel5Ideal.Value
public import Idealize.ShloMosaic.Lib.Pipeline.ValueKit
public import proofs.«01_k».proof.Proof.SharedRead

@[expose] public section

set_option maxRecDepth 16384

noncomputable section

open Idealize.ShloMosaic Idealize.ShloMosaic.TcCoe Idealize.SL.Sem
open Idealize.ShloMosaic.Pipeline (Dat)

namespace Cert.Kernel5Ideal.Shared

open Cert.Kernel5Ideal Cert.Kernel5Ideal.Gen Cert.Gated

variable (m : (ℓ : Loc nD τ sig) → Buf (Elt Ideal) ℓ)

/-- The modulation's row at a grid point: the context's or the batch member's. -/
def seg (t : ℕ) : ℕ := if t < 8 then 0 else 1 + (t - 8) / 4

/-- Every window's block index at a grid point. -/
theorem idx : ∀ t : Fin cfg0.N, win0_0.index t = ![t.val, 0] ∧ win0_1.index t = ![t.val, 0] ∧ win0_2.index t = ![t.val, 0]
    ∧ win0_3.index t = ![seg t.val, 0, 5] ∧ win0_4.index t = ![0, 0] ∧ win0_5.index t = ![0, 0] ∧ win0_6.index t = ![t.val, 0] :=
  (by decide +kernel : ∀ t : Fin grid0.N, _)

/-- A grid point's number. -/
theorem tlt (t : Fin cfg0.N) : t.val < 72 := lt_of_lt_of_eq t.isLt N_0

/-- The row of the stream at a row of a point's block, and the modulation's row. -/
def pOf (t : Fin cfg0.N) (r : Fin 512) : Fin 36864 := ⟨t.val * 512 + r, by have := tlt t; omega⟩
def segOf (t : Fin cfg0.N) : Fin 17 := ⟨seg t.val, by have := tlt t; unfold seg; split <;> omega⟩

/-- The joined rows at a row of the context's part, -/
theorem rows_context (x0 : FVec Ideal S16x256x2048 .f32) (x1 : FVec Ideal S16x2048x2048 .f32) (p : Fin 36864) (h : (p : ℕ) < 4096) (d : Fin 2048) :
    concatenate S36864x2048 0 [⟨S4096x2048, shapeCast S4096x2048 x0 shapeCasts_S16x256x2048_S4096x2048⟩,
        ⟨S32768x2048, shapeCast S32768x2048 x1 shapeCasts_S16x2048x2048_S32768x2048⟩] concatenates_S4096x2048_S32768x2048_S36864x2048_d0 (ix2 p d)
      = x0 (ix3 ⟨p / 256, by omega⟩ ⟨p % 256, by omega⟩ d) := by
  pointwise
  rw [dif_pos h]

/-- and of the latents' part. -/
theorem rows_latent (x0 : FVec Ideal S16x256x2048 .f32) (x1 : FVec Ideal S16x2048x2048 .f32) (p : Fin 36864) (h : ¬ (p : ℕ) < 4096) (d : Fin 2048) :
    concatenate S36864x2048 0 [⟨S4096x2048, shapeCast S4096x2048 x0 shapeCasts_S16x256x2048_S4096x2048⟩,
        ⟨S32768x2048, shapeCast S32768x2048 x1 shapeCasts_S16x2048x2048_S32768x2048⟩] concatenates_S4096x2048_S32768x2048_S36864x2048_d0 (ix2 p d)
      = x1 (ix3 ⟨(p - 4096) / 2048, by omega⟩ ⟨(p - 4096) % 2048, by omega⟩ d) := by
  pointwise
  rw [dif_neg h]

/-- The stream at a row of the context's part, -/
theorem V2_context (c : Dev nD) (p : Fin 36864) (h : (p : ℕ) < 4096) (d : Fin 2048) : V m c main_v2 (ix2 p d)
    = m ((c : Thread nD τ).loc main_arg0) (ix3 ⟨p / 256, by omega⟩ ⟨p % 256, by omega⟩ d) := by
  entry_read
  exact rows_context _ _ p h d

/-- and of the latents' part. -/
theorem V2_latent (c : Dev nD) (p : Fin 36864) (h : ¬ (p : ℕ) < 4096) (d : Fin 2048) : V m c main_v2 (ix2 p d)
    = m ((c : Thread nD τ).loc main_arg1) (ix3 ⟨(p - 4096) / 2048, by omega⟩ ⟨(p - 4096) % 2048, by omega⟩ d) := by
  entry_read
  exact rows_latent _ _ p h d

/-- The rounded rows of the feed-forward input. -/
theorem V6 (c : Dev nD) (i : S36864x2048.Idx) : V m c main_v6 i = m ((c : Thread nD τ).loc main_arg4) i := by
  entry_read
  rfl

/-- The packed weights, -/
theorem V8 (c : Dev nD) (j : Fin 2048) (k : Fin 1024) : V m c main_v8 (ix2 j k)
    = if h : (k : ℕ) < 512 then m ((c : Thread nD τ).loc main_arg6) (ix2 j ⟨k, h⟩) else m ((c : Thread nD τ).loc main_arg7) (ix2 j ⟨k - 512, by omega⟩) := by
  entry_read
  pointwise

/-- and the output projection's. -/
theorem V9 (c : Dev nD) (i : S512x2048.Idx) : V m c main_v9 i = m ((c : Thread nD τ).loc main_arg8) i := by
  entry_read
  rfl

/-- The modulation's row of the context, -/
theorem V5_context (c : Dev nD) (e : Fin 12288) : V m c main_v5 (ix3 0 0 e) = m ((c : Thread nD τ).loc main_arg2) (ix1 e) := by
  entry_read
  pointwise

/-- and of a batch member. -/
theorem V5_latent (c : Dev nD) (b : Fin 16) (e : Fin 12288) : V m c main_v5 (ix3 ⟨1 + b, by omega⟩ 0 e)
    = m ((c : Thread nD τ).loc main_arg3) (ix2 b e) := by
  entry_read
  pointwise

/-- The block of rows, -/
theorem I0 (c : Dev nD) (t : Fin cfg0.N) (r : Fin 512) (j : Fin 2048) : iblk m c 0 t (ix2 r j) = V m c main_v6 (ix2 (pOf t r) j) := by
  blk_ext [iblk, idx t, pOf]

/-- of the routed experts' output, -/
theorem I1 (c : Dev nD) (t : Fin cfg0.N) (r : Fin 512) (d : Fin 2048) : iblk m c 1 t (ix2 r d)
    = m ((c : Thread nD τ).loc main_arg5) (ix2 (pOf t r) d) := by
  refine Eq.trans (b := V m c main_arg5 (ix2 (pOf t r) d)) ?_ (congrFun (V_main_arg5 m c) _)
  blk_ext [iblk, idx t, pOf]

/-- of the stream, -/
theorem I2 (c : Dev nD) (t : Fin cfg0.N) (r : Fin 512) (d : Fin 2048) : iblk m c 2 t (ix2 r d) = V m c main_v2 (ix2 (pOf t r) d) := by
  blk_ext [iblk, idx t, pOf]

/-- of the gate, -/
theorem I3 (c : Dev nD) (t : Fin cfg0.N) (d : Fin 2048) : iblk m c 3 t (ix3 0 0 d)
    = V m c main_v5 (ix3 (segOf t) 0 ⟨10240 + d, by omega⟩) := by
  blk_ext [iblk, idx t, segOf]

/-- of the packed weights, -/
theorem I4 (c : Dev nD) (t : Fin cfg0.N) (j : Fin 2048) (k : Fin 1024) : iblk m c 4 t (ix2 j k) = V m c main_v8 (ix2 j k) := by
  blk_ext [iblk, idx t]

/-- and of the output projection. -/
theorem I5 (c : Dev nD) (t : Fin cfg0.N) (k : Fin 512) (d : Fin 2048) : iblk m c 5 t (ix2 k d) = V m c main_v9 (ix2 k d) := by
  blk_ext [iblk, idx t]

/-- Where an element of a point's block of the result lies in the result. -/
theorem out_emb (t : Fin cfg0.N) (r : Fin 512) (d : Fin 2048) : ((View.whole main_v10).slice (win0_6.rect t)).emb (ix2 r d)
    = ix2 (pOf t r) d := by
  blk_ext [idx t, pOf]

/-- The stored block at an element. -/
theorem stored (x0 : Vec Ideal S512x2048 .bf16) (x4 : Vec Ideal S2048x1024 .bf16) (x5 : Vec Ideal S512x2048 .bf16) (x2 : Vec Ideal S512x2048 .f32)
    (x3 : Vec Ideal S1x1x2048 .f32) (x1 : Vec Ideal S512x2048 .f32) (r : Fin 512) (d : Fin 2048) :
    k0_pay1 x0 x4 x5 x2 x3 x1 (ix2 r d) = x2 (ix2 r d) + x3 (ix3 0 0 d) * (x1 (ix2 r d)
      + ffn (fun j => x0 (ix2 r j)) (fun j k => x4 (ix2 j ⟨k, by omega⟩)) (fun j k => x4 (ix2 j ⟨512 + k, by omega⟩)) (fun k => x5 (ix2 k d))) := by
  unfold ffn gate
  pointwise [k0_pay1]

/-- The shared expert's part of a point's block is the reference's. -/
theorem expert (c : Dev nD) (t : Fin cfg0.N) (r : Fin 512) (d : Fin 2048) :
    @HAdd.hAdd EReal EReal EReal _ (iblk m c 1 t (ix2 r d)) (ffn (fun j => iblk m c 0 t (ix2 r j)) (fun j (k : Fin 512) => iblk m c 4 t (ix2 j ⟨k, by omega⟩))
        (fun j k => iblk m c 4 t (ix2 j ⟨512 + k, by omega⟩)) (fun k => iblk m c 5 t (ix2 k d)))
      = Cert.Reference5Ideal.Read.val_main_v19 (F := Ideal) (m ((c : Thread nD τ).loc main_arg4)) (m ((c : Thread nD τ).loc main_arg5))
          (m ((c : Thread nD τ).loc main_arg6)) (m ((c : Thread nD τ).loc main_arg7)) (m ((c : Thread nD τ).loc main_arg8)) (ix2 (pOf t r) d) := by
  rw [Cert.Reference5Ideal.Shared.v19_apply, I1]
  refine congrArg (HAdd.hAdd (γ := EReal) _) (ffn_congr (fun j => (I0 m c t r j).trans (V6 m c _)) (fun j k => ?_) (fun j k => ?_)
    (fun k => (I5 m c t k d).trans (V9 m c _)))
  · rw [I4, V8, dif_pos k.isLt]
  · rw [I4, V8, dif_neg (Nat.not_lt.mpr (Nat.le_add_right 512 k))]
    exact congrArg _ (congrArg (ix2 j) (Fin.ext (Nat.add_sub_cancel_left 512 k)))

/-- The kernel's result array after its run is the reference's value of the same arguments. -/
theorem final (c : Dev nD) : (dats m 0 c).arrAt 6 (cfgs 0).N
    = Cert.Reference5Ideal.Read.val_main_v32 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) := by
  refine (dats m 0 c).arrAt_eq_of_covers 6 _ (by decide +kernel) fun t _ y => ?_
  blk_simp
  rw [after0_6]; unfold out0_6; frame_out
  obtain ⟨r, d, rfl⟩ : ∃ (r : Fin 512) (d : Fin 2048), y = ix2 r d := ⟨y 0, y 1, eq_ix2 y⟩
  rw [out_emb]
  refine (stored _ _ _ _ _ _ r d).trans ?_
  rw [expert, I2, I3]
  by_cases h : (pOf t r : ℕ) < 4096
  · have hs : segOf t = 0 := Fin.ext (if_pos (by unfold pOf at h; dsimp only at h; omega))
    rw [Cert.Reference5Ideal.Shared.v32_context _ _ _ _ _ _ _ _ _ _ h, hs, V5_context, V2_context m c _ h]
  · have hp : ¬ t.val < 8 := by unfold pOf at h; dsimp only at h; omega
    have hs : segOf t = ⟨1 + (⟨(pOf t r - 4096) / 2048, by omega⟩ : Fin 16), by dsimp only; omega⟩ := by
      apply Fin.ext
      refine (if_neg hp).trans ?_
      unfold pOf
      dsimp only
      omega
    rw [Cert.Reference5Ideal.Shared.v32_latent _ _ _ _ _ _ _ _ _ _ h, hs, V5_latent, V2_latent m c _ h]

end Cert.Kernel5Ideal.Shared

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_names_experts
public import Idealize.ShloMosaic.Lib.Claim
public import Idealize.ShloMosaic.Lib.Quiescent
public import proofs.«01_k».proof.Proof.Final
public import proofs.«01_k».proof.Proof.ExpertFrame
public import proofs.«01_k».proof.Proof.ExpertFinal
public import proofs.«01_k».proof.Proof.InFrame
public import proofs.«01_k».proof.Proof.InFinal
public import proofs.«01_k».proof.Proof.SwaInFinal
public import proofs.«01_k».proof.Proof.PrepFinal
public import proofs.«01_k».proof.Proof.OutFinal
public import proofs.«01_k».proof.Proof.SharedFinal
public import Idealize.ShloMosaic.Adequacy
public import Idealize.ShloMosaic.Init

@[expose] public section

noncomputable section

namespace Cert.Proof

open Idealize.ShloMosaic Idealize.ShloMosaic.TcCoe Idealize.SL.Sem

/-- The attention's reference runs, leaves its arguments as they were and, having no semaphore, leaves every counter at zero. -/
theorem attention_reference_frame : Cert.quiescent_ReferenceIdeal := fun m ρ _ =>
  (θ_run Cert.ReferenceIdeal.defs _ _).mono (fun _ h => ⟨fun c => (h c).2, sem_eq_zero_of_no_sems rfl _⟩)
    (Cert.ReferenceIdeal.Value.run m ρ)

/-- The differential attention: over the extended reals the kernel's result is the reference's. -/
theorem attention : Cert.algebraic_KernelIdeal_ReferenceIdeal := by
  pair_intro
  · run_from Cert.KernelIdeal.Gen.run_main m g
  · run_from Cert.ReferenceIdeal.Value.run m' g'
    rw [Cert.ReferenceIdeal.Read.val_main_v56_eq]
    rw [Cert.KernelIdeal.Attn.final m c]
    obtain ⟨h0, h1, h2, h3, h4, h5, h6⟩ := hagree c
    rw [h0, h1, h2, h3, h4, h5, h6]

/-- The experts' reference runs, leaves its arguments as they were and, having no semaphore, leaves every counter at zero. -/
theorem experts_reference_frame : Cert.quiescent_Reference2Ideal := fun m ρ _ =>
  (θ_run Cert.Reference2Ideal.defs _ _).mono (fun _ h => ⟨fun c => (h c).2, sem_eq_zero_of_no_sems rfl _⟩)
    (Cert.Reference2Ideal.Value.run m ρ)

/-- The experts' kernel at machine precision, its block experts being experts, runs and changes only what it writes. -/
theorem experts_frame : Cert.quiescent_Kernel2 := fun m ρ hm =>
  Cert.Kernel2.Expert.frame m ρ (Cert.Kernel2.Expert.ok_of_range m (Cert.Kernel2.Expert.range_of_pre _ _ _ _ _ _ (hm 0)))

/-- The same over the extended reals. -/
theorem experts_frame_ideal : Cert.quiescent_Kernel2Ideal := fun m ρ hm =>
  Cert.Kernel2Ideal.Expert.frame m ρ
    (Cert.Kernel2Ideal.Expert.ok_of_range m (Cert.Kernel2Ideal.Expert.range_of_pre _ _ _ _ _ _ (hm 0)))

/-- The routed experts: over the extended reals the kernel's blocks are the reference's. -/
theorem experts : Cert.algebraic_Kernel2Ideal_Reference2Ideal := by
  pair_intro
  · run_from Cert.Kernel2Ideal.Expert.run m g (Cert.Kernel2Ideal.Expert.range_of_pre _ _ _ _ _ _ (hpre 0))
  · run_from Cert.Reference2Ideal.Value.run m' g'
    rw [Cert.Reference2Ideal.Read.val_main_v64_eq]
    obtain ⟨h0, h1, h2, h3, h4, h5⟩ := hagree c
    rw [h0, h1, h2, h3, h4, h5]

/-- The in-projection's reference runs, leaves its arguments as they were and, having no semaphore, leaves every counter at zero. -/
theorem in_projection_reference_frame : Cert.quiescent_Reference3Ideal := fun m ρ _ =>
  (θ_run Cert.Reference3Ideal.defs _ _).mono (fun _ h => ⟨fun c => (h c).2, sem_eq_zero_of_no_sems rfl _⟩)
    (Cert.Reference3Ideal.Value.run m ρ)

/-- The in-projection: over the extended reals the kernel's result is the reference's. -/
theorem in_projection : Cert.algebraic_Kernel3Ideal_Reference3Ideal := by
  pair_intro
  · run_from Cert.Kernel3Ideal.InProjection.run m g
  · refine (θ_run Cert.Reference3Ideal.defs _ _).mono (fun r h c => ⟨(h c).1.trans ?_, (h c).2⟩) (Cert.Reference3Ideal.InProjection.run m' g')
    obtain ⟨h0, h1, h2, h3, h4, h5⟩ := hagree c
    rw [h0, h1, h2, h3, h4, h5]

/-- The out-projection's reference runs, leaves its arguments as they were and, having no semaphore, leaves every counter at zero. -/
theorem out_projection_reference_frame : Cert.quiescent_Reference4Ideal := fun m ρ _ =>
  (θ_run Cert.Reference4Ideal.defs _ _).mono (fun _ h => ⟨fun c => (h c).2, sem_eq_zero_of_no_sems rfl _⟩)
    (Cert.Reference4Ideal.Value.run m ρ)

/-- The out-projection: over the extended reals the kernel's result is the reference's. -/
theorem out_projection : Cert.algebraic_Kernel4Ideal_Reference4Ideal := by
  pair_intro
  · run_from Cert.Kernel4Ideal.Gen.run_main m g
  · run_from Cert.Reference4Ideal.Value.run m' g'
    refine Eq.trans ?_ (Cert.Kernel4Ideal.OutProjection.final m c).symm
    obtain ⟨h0, h1, h2, h3, h4, h5, h6⟩ := hagree c
    rw [← h0, ← h1, ← h2, ← h3, ← h4, ← h5, ← h6]
    exact Cert.Reference4Ideal.Read.val_main_v26_eq _ _ _ _ _ _ _

/-- The shared experts's reference runs, leaves its arguments as they were and, having no semaphore, leaves every counter at zero. -/
theorem shared_experts_reference_frame : Cert.quiescent_Reference5Ideal := fun m ρ _ =>
  (θ_run Cert.Reference5Ideal.defs _ _).mono (fun _ h => ⟨fun c => (h c).2, sem_eq_zero_of_no_sems rfl _⟩)
    (Cert.Reference5Ideal.Value.run m ρ)

/-- The shared experts: over the extended reals the kernel's result is the reference's. -/
theorem shared_experts : Cert.algebraic_Kernel5Ideal_Reference5Ideal := by
  pair_intro
  · run_from Cert.Kernel5Ideal.Gen.run_main m g
  · run_from Cert.Reference5Ideal.Value.run m' g'
    refine Eq.trans ?_ (Cert.Kernel5Ideal.Shared.final m c).symm
    obtain ⟨h0, h1, h2, h3, h4, h5, h6, h7, h8⟩ := hagree c
    rw [← h0, ← h1, ← h2, ← h3, ← h4, ← h5, ← h6, ← h7, ← h8]
    exact Cert.Reference5Ideal.Read.val_main_v32_eq _ _ _ _ _ _ _ _ _

/-- The second layer's in-projection's reference runs, leaves its arguments as they were and, having no semaphore, leaves every counter at zero. -/
theorem window_projection_reference_frame : Cert.quiescent_Reference6Ideal := fun m ρ _ =>
  (θ_run Cert.Reference6Ideal.defs _ _).mono (fun _ h => ⟨fun c => (h c).2, sem_eq_zero_of_no_sems rfl _⟩)
    (Cert.Reference6Ideal.Value.run m ρ)

/-- The second layer's in-projection: over the extended reals the kernel's result is the reference's. -/
theorem window_projection : Cert.algebraic_Kernel6Ideal_Reference6Ideal := by
  pair_intro
  · run_from Cert.Kernel6Ideal.InProjection.run m g
  · refine (θ_run Cert.Reference6Ideal.defs _ _).mono (fun r h c => ⟨(h c).1.trans ?_, (h c).2⟩) (Cert.Reference6Ideal.InProjection.run m' g')
    obtain ⟨h0, h1, h2, h3, h4, h5⟩ := hagree c
    rw [h0, h1, h2, h3, h4, h5]

/-- The reference of the experts' input and the router's logits runs, leaves its arguments as they were and, having no semaphore, leaves every
counter at zero. -/
theorem preparation_reference_frame : Cert.quiescent_Reference7Ideal := fun m ρ _ =>
  (θ_run Cert.Reference7Ideal.defs _ _).mono (fun _ h => ⟨fun c => (h c).2.2, sem_eq_zero_of_no_sems rfl _⟩)
    (Cert.Reference7Ideal.Value.run m ρ)

/-- The experts' input and the router's logits: over the extended reals the kernel's two results are the reference's. -/
theorem preparation : Cert.algebraic_Kernel7Ideal_Reference7Ideal := by
  pair_intro
  · run_from Cert.Kernel7Ideal.Gen.run_main m g
  · refine (θ_run Cert.Reference7Ideal.defs _ _).mono (fun r h c => ⟨(h c).1.trans ?_, (h c).2.1.trans ?_, (h c).2.2⟩) (Cert.Reference7Ideal.Prep.run m' g')
    · refine Eq.trans ?_ (Cert.Kernel7Ideal.Prep.final_rows m c).symm
      obtain ⟨h0, h1, h2, h3, h4, h5⟩ := hagree c
      rw [h0, h1, h2, h3, h4]
    · refine Eq.trans ?_ (Cert.Kernel7Ideal.Prep.final_logits m c).symm
      obtain ⟨h0, h1, h2, h3, h4, h5⟩ := hagree c
      rw [h0, h1, h2, h3, h4, h5]

/-- Everything the certificate claims. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Pre_names_experts.Gen.facts,
  fun m ρ _ => Cert.Kernel.Gen.frame m ρ,
  fun m ρ _ => Cert.KernelIdeal.Gen.frame m ρ,
  attention_reference_frame,
  experts_frame,
  experts_frame_ideal,
  experts_reference_frame,
  fun m ρ _ => Cert.Kernel3.InProjection.frame m ρ,
  fun m ρ _ => Cert.Kernel3Ideal.InProjection.frame m ρ,
  in_projection_reference_frame,
  fun m ρ _ => Cert.Kernel4.Gen.frame m ρ,
  fun m ρ _ => Cert.Kernel4Ideal.Gen.frame m ρ,
  out_projection_reference_frame,
  fun m ρ _ => Cert.Kernel5.Gen.frame m ρ,
  fun m ρ _ => Cert.Kernel5Ideal.Gen.frame m ρ,
  shared_experts_reference_frame,
  fun m ρ _ => Cert.Kernel6.Gen.frame m ρ,
  fun m ρ _ => Cert.Kernel6Ideal.Gen.frame m ρ,
  window_projection_reference_frame,
  fun m ρ _ => Cert.Kernel7.Gen.frame m ρ,
  fun m ρ _ => Cert.Kernel7Ideal.Gen.frame m ρ,
  preparation_reference_frame,
  trivial,
  attention,
  trivial,
  experts,
  trivial,
  in_projection,
  trivial,
  out_projection,
  trivial,
  shared_experts,
  trivial,
  window_projection,
  trivial,
  preparation⟩

end Cert.Proof

end
